-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pack.Statement Cert.KernelIdeal.S104x3968

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x3x256x256 : Shape := ⟨4, ![32, 3, 256, 256]⟩
abbrev S84 : Shape := ⟨1, ![84]⟩
abbrev S32x3x128x2x128x2 : Shape := ⟨6, ![32, 3, 128, 2, 128, 2]⟩
abbrev S32x2x2x3x128x128 : Shape := ⟨6, ![32, 2, 2, 3, 128, 128]⟩
abbrev S_ : Shape := ⟨0, ![]⟩
abbrev S168x104 : Shape := ⟨2, ![168, 104]⟩
abbrev S84x10x10 : Shape := ⟨3, ![84, 10, 10]⟩
abbrev S84x1x1 : Shape := ⟨3, ![84, 1, 1]⟩
abbrev S168x10x10 : Shape := ⟨3, ![168, 10, 10]⟩
abbrev S168x100 : Shape := ⟨2, ![168, 100]⟩
abbrev S1 : Shape := ⟨1, ![1]⟩
abbrev S168x312 : Shape := ⟨2, ![168, 312]⟩
abbrev S32x104x124x128 : Shape := ⟨4, ![32, 104, 124, 128]⟩
abbrev S32x104x15872 : Shape := ⟨3, ![32, 104, 15872]⟩
abbrev S32x8x15872 : Shape := ⟨3, ![32, 8, 15872]⟩
abbrev S32x8x124x128 : Shape := ⟨4, ![32, 8, 124, 128]⟩
abbrev S32x6x124x124 : Shape := ⟨4, ![32, 6, 124, 124]⟩
abbrev S1x2x2x3x128x128 : Shape := ⟨6, ![1, 2, 2, 3, 128, 128]⟩
abbrev S1x104x124x128 : Shape := ⟨4, ![1, 104, 124, 128]⟩
abbrev S1x1x1x1x128x128 : Shape := ⟨6, ![1, 1, 1, 1, 128, 128]⟩
abbrev S128x128 : Shape := ⟨2, ![128, 128]⟩
abbrev S124x124 : Shape := ⟨2, ![124, 124]⟩
abbrev S1x1x124x124 : Shape := ⟨4, ![1, 1, 124, 124]⟩
abbrev S104x124x4 : Shape := ⟨3, ![104, 124, 4]⟩
abbrev S1x104x124x4 : Shape := ⟨4, ![1, 104, 124, 4]⟩
abbrev S4x124x124 : Shape := ⟨3, ![4, 124, 124]⟩
abbrev S1x4x124x124 : Shape := ⟨4, ![1, 4, 124, 124]⟩
abbrev S1x104x3968 : Shape := ⟨3, ![1, 104, 3968]⟩
abbrev S1x8x3968 : Shape := ⟨3, ![1, 8, 3968]⟩
abbrev S104x3968 : Shape := ⟨2, ![104, 3968]⟩
abbrev S312x3968 : Shape := ⟨2, ![312, 3968]⟩
abbrev S168x3968 : Shape := ⟨2, ![168, 3968]⟩
abbrev S84x3968 : Shape := ⟨2, ![84, 3968]⟩
abbrev S4x3968 : Shape := ⟨2, ![4, 3968]⟩
abbrev S3968 : Shape := ⟨1, ![3968]⟩
abbrev S10x3968 : Shape := ⟨2, ![10, 3968]⟩
abbrev S16x3968 : Shape := ⟨2, ![16, 3968]⟩
abbrev S18x3968 : Shape := ⟨2, ![18, 3968]⟩
abbrev S27x3968 : Shape := ⟨2, ![27, 3968]⟩
abbrev S9x3968 : Shape := ⟨2, ![9, 3968]⟩
abbrev S1x3968 : Shape := ⟨2, ![1, 3968]⟩
abbrev S8x3968 : Shape := ⟨2, ![8, 3968]⟩

abbrev nBuf : Space → Nat
  | .hbm => 55
  | .vmem => 9
  | .smem => 0
  | _ => 0

abbrev bufTy : (tb : Table) → Fin (tcTables nBuf tb) → BufTy
  | .hbm, ⟨0, _⟩ => ⟨S32x3x256x256, .f32⟩
  | .hbm, ⟨1, _⟩ => ⟨S84, .i32⟩
  | .hbm, ⟨2, _⟩ => ⟨S84, .i32⟩
  | .hbm, ⟨3, _⟩ => ⟨S84, .f32⟩
  | .hbm, ⟨4, _⟩ => ⟨S84, .f32⟩
  | .hbm, ⟨5, _⟩ => ⟨S32x3x128x2x128x2, .f32⟩
  | .hbm, ⟨6, _⟩ => ⟨S32x2x2x3x128x128, .f32⟩
  | .hbm, ⟨7, _⟩ => ⟨S_, .f32⟩
  | .hbm, ⟨8, _⟩ => ⟨S168x104, .f32⟩
  | .hbm, ⟨9, _⟩ => ⟨S84x10x10, .i32⟩
  | .hbm, ⟨10, _⟩ => ⟨S84x10x10, .i32⟩
  | .hbm, ⟨11, _⟩ => ⟨S84x1x1, .i32⟩
  | .hbm, ⟨12, _⟩ => ⟨S84x10x10, .i32⟩
  | .hbm, ⟨13, _⟩ => ⟨S84x10x10, .i32⟩
  | .hbm, ⟨14, _⟩ => ⟨S84x1x1, .i32⟩
  | .hbm, ⟨15, _⟩ => ⟨S84x10x10, .i32⟩
  | .hbm, ⟨16, _⟩ => ⟨S84x10x10, .i32⟩
  | .hbm, ⟨17, _⟩ => ⟨S84x10x10, .i32⟩
  | .hbm, ⟨18, _⟩ => ⟨S_, .i32⟩
  | .hbm, ⟨19, _⟩ => ⟨S84x10x10, .i32⟩
  | .hbm, ⟨20, _⟩ => ⟨S84x10x10, .i32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S84x10x10, .f32⟩
  | .hbm, ⟨26, _⟩ => ⟨S84x10x10, .f32⟩
  | .hbm, ⟨27, _⟩ => ⟨S84x10x10, .f32⟩
  | .hbm, ⟨28, _⟩ => ⟨S_, .f32⟩
  | .hbm, ⟨29, _⟩ => ⟨S84x10x10, .f32⟩
  | .hbm, ⟨30, _⟩ => ⟨S84x10x10, .f32⟩
  | .hbm, ⟨31, _⟩ => ⟨S84, .f32⟩
  | .hbm, ⟨32, _⟩ => ⟨S84x1x1, .f32⟩
  | .hbm, ⟨33, _⟩ => ⟨S84x10x10, .f32⟩
  | .hbm, ⟨34, _⟩ => ⟨S84x10x10, .f32⟩
  | .hbm, ⟨35, _⟩ => ⟨S84x10x10, .f32⟩
  | .hbm, ⟨36, _⟩ => ⟨S84x10x10, .f32⟩
  | .hbm, ⟨37, _⟩ => ⟨S84x10x10, .f32⟩
  | .hbm, ⟨38, _⟩ => ⟨S84x10x10, .f32⟩
  | .hbm, ⟨39, _⟩ => ⟨S168x10x10, .f32⟩
  | .hbm, ⟨40, _⟩ => ⟨S168x100, .f32⟩
  | .hbm, ⟨41, _⟩ => ⟨S_, .i32⟩
  | .hbm, ⟨42, _⟩ => ⟨S1, .i32⟩
  | .hbm, ⟨43, _⟩ => ⟨S168x104, .f32⟩
  | .hbm, ⟨44, _⟩ => ⟨S168x104, .bf16⟩
  | .hbm, ⟨45, _⟩ => ⟨S168x104, .f32⟩
  | .hbm, ⟨46, _⟩ => ⟨S168x104, .f32⟩
  | .hbm, ⟨47, _⟩ => ⟨S168x104, .bf16⟩
  | .hbm, ⟨48, _⟩ => ⟨S168x104, .f32⟩
  | .hbm, ⟨49, _⟩ => ⟨S168x312, .f32⟩
  | .hbm, ⟨50, _⟩ => ⟨S32x104x124x128, .f32⟩
  | .hbm, ⟨51, _⟩ => ⟨S32x104x15872, .f32⟩
  | .hbm, ⟨52, _⟩ => ⟨S32x8x15872, .f32⟩
  | .hbm, ⟨53, _⟩ => ⟨S32x8x124x128, .f32⟩
  | .hbm, ⟨54, _⟩ => ⟨S32x6x124x124, .f32⟩
  | .local _ .vmem, ⟨0, _⟩ => ⟨S1x2x2x3x128x128, .f32⟩
  | .local _ .vmem, ⟨1, _⟩ => ⟨S1x2x2x3x128x128, .f32⟩
  | .local _ .vmem, ⟨2, _⟩ => ⟨S1x104x124x128, .f32⟩
  | .local _ .vmem, ⟨3, _⟩ => ⟨S1x104x124x128, .f32⟩
  | .local _ .vmem, ⟨4, _⟩ => ⟨S1x104x3968, .f32⟩
  | .local _ .vmem, ⟨5, _⟩ => ⟨S1x104x3968, .f32⟩
  | .local _ .vmem, ⟨6, _⟩ => ⟨S168x312, .f32⟩
  | .local _ .vmem, ⟨7, _⟩ => ⟨S1x8x3968, .f32⟩
  | .local _ .vmem, ⟨8, _⟩ => ⟨S1x8x3968, .f32⟩
  | _, _ => ⟨S32x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_c_0 : Ref sig .tc := ⟨.hbm, 2, rfl⟩
abbrev main_call0_cst : Ref sig .tc := ⟨.hbm, 3, rfl⟩
abbrev main_call0_cst_1 : Ref sig .tc := ⟨.hbm, 4, rfl⟩
abbrev main_call0_v0 : Ref sig .tc := ⟨.hbm, 5, rfl⟩
abbrev main_call0_v1 : Ref sig .tc := ⟨.hbm, 6, rfl⟩
abbrev main_call0_cst_2 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst_4 : Ref sig .tc := ⟨.hbm, 21, rfl⟩
abbrev main_call0_v14 : Ref sig .tc := ⟨.hbm, 22, rfl⟩
abbrev main_call0_cst_5 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_cst_6 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_v30 : Ref sig .tc := ⟨.hbm, 40, rfl⟩
abbrev main_call0_c_7 : Ref sig .tc := ⟨.hbm, 41, rfl⟩
abbrev main_call0_v31 : Ref sig .tc := ⟨.hbm, 42, rfl⟩
abbrev main_call0_v32 : Ref sig .tc := ⟨.hbm, 43, rfl⟩
abbrev main_call0_v33 : Ref sig .tc := ⟨.hbm, 44, rfl⟩
abbrev main_call0_v34 : Ref sig .tc := ⟨.hbm, 45, rfl⟩
abbrev main_call0_v35 : Ref sig .tc := ⟨.hbm, 46, rfl⟩
abbrev main_call0_v36 : Ref sig .tc := ⟨.hbm, 47, rfl⟩
abbrev main_call0_v37 : Ref sig .tc := ⟨.hbm, 48, rfl⟩
abbrev main_call0_v38 : Ref sig .tc := ⟨.hbm, 49, rfl⟩
abbrev main_call0_v39 : Ref sig .tc := ⟨.hbm, 50, rfl⟩
abbrev main_call0_v40 : Ref sig .tc := ⟨.hbm, 51, rfl⟩
abbrev main_call0_v41 : Ref sig .tc := ⟨.hbm, 52, rfl⟩
abbrev main_call0_v42 : Ref sig .tc := ⟨.hbm, 53, rfl⟩
abbrev main_v0 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [BitOps F]

abbrev grid0 : Pipeline.Grid := ⟨1, ![32], ![false]⟩

def cc0_transform_0 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x2x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x104x124x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x104x3968 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S168x312 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x8x3968 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== KernelIdeal.lean ====
variable {F : FTy → Type} [FloatOps F]
-- ==== ReferenceIdeal.lean ====
abbrev S32x3x256x256 : Shape := ⟨4, ![32, 3, 256, 256]⟩
abbrev S6x10x10 : Shape := ⟨3, ![6, 10, 10]⟩
abbrev S32x1x256x256 : Shape := ⟨4, ![32, 1, 256, 256]⟩
abbrev S32x256x256 : Shape := ⟨3, ![32, 256, 256]⟩
abbrev S_ : Shape := ⟨0, ![]⟩
abbrev S32x124x256 : Shape := ⟨3, ![32, 124, 256]⟩
abbrev S32x1x124x256 : Shape := ⟨4, ![32, 1, 124, 256]⟩
abbrev S32x10x124x256 : Shape := ⟨4, ![32, 10, 124, 256]⟩
abbrev S32x10x124x124 : Shape := ⟨4, ![32, 10, 124, 124]⟩
abbrev S32x10x1x124x124 : Shape := ⟨5, ![32, 10, 1, 124, 124]⟩
abbrev S32x10x10x124x124 : Shape := ⟨5, ![32, 10, 10, 124, 124]⟩
abbrev S10x10x10x10 : Shape := ⟨4, ![10, 10, 10, 10]⟩
abbrev S32x124x124x10x10 : Shape := ⟨5, ![32, 124, 124, 10, 10]⟩
abbrev S32x5x10x124x124 : Shape := ⟨5, ![32, 5, 10, 124, 124]⟩
abbrev S32x10x5x124x124 : Shape := ⟨5, ![32, 10, 5, 124, 124]⟩
abbrev S6 : Shape := ⟨1, ![6]⟩
abbrev S6x32x124x124 : Shape := ⟨4, ![6, 32, 124, 124]⟩
abbrev S32x6x124x124 : Shape := ⟨4, ![32, 6, 124, 124]⟩
abbrev S1x6x1x1 : Shape := ⟨4, ![1, 6, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S32x3x256x256, .f32⟩
  | .hbm, ⟨1, _⟩ => ⟨S6x10x10, .f32⟩
  | .hbm, ⟨2, _⟩ => ⟨S32x1x256x256, .f32⟩
  | .hbm, ⟨3, _⟩ => ⟨S32x256x256, .f32⟩
  | .hbm, ⟨4, _⟩ => ⟨S_, .f32⟩
  | .hbm, ⟨5, _⟩ => ⟨S32x256x256, .f32⟩
  | .hbm, ⟨6, _⟩ => ⟨S32x256x256, .f32⟩
  | .hbm, ⟨7, _⟩ => ⟨S32x1x256x256, .f32⟩
  | .hbm, ⟨8, _⟩ => ⟨S32x256x256, .f32⟩
  | .hbm, ⟨9, _⟩ => ⟨S_, .f32⟩
  | .hbm, ⟨10, _⟩ => ⟨S32x256x256, .f32⟩
  | .hbm, ⟨11, _⟩ => ⟨S32x256x256, .f32⟩
  | .hbm, ⟨12, _⟩ => ⟨S32x256x256, .f32⟩
  | .hbm, ⟨13, _⟩ => ⟨S32x1x256x256, .f32⟩
  | .hbm, ⟨14, _⟩ => ⟨S32x256x256, .f32⟩
  | .hbm, ⟨15, _⟩ => ⟨S_, .f32⟩
  | .hbm, ⟨16, _⟩ => ⟨S32x256x256, .f32⟩
  | .hbm, ⟨17, _⟩ => ⟨S32x256x256, .f32⟩
  | .hbm, ⟨18, _⟩ => ⟨S32x256x256, .f32⟩
  | .hbm, ⟨19, _⟩ => ⟨S32x124x256, .f32⟩
  | .hbm, ⟨20, _⟩ => ⟨S32x124x256, .f32⟩
  | .hbm, ⟨21, _⟩ => ⟨S32x124x256, .f32⟩
  | .hbm, ⟨22, _⟩ => ⟨S32x124x256, .f32⟩
  | .hbm, ⟨23, _⟩ => ⟨S32x124x256, .f32⟩
  | .hbm, ⟨24, _⟩ => ⟨S32x124x256, .f32⟩
  | .hbm, ⟨25, _⟩ => ⟨S32x124x256, .f32⟩
  | .hbm, ⟨26, _⟩ => ⟨S32x124x256, .f32⟩
  | .hbm, ⟨27, _⟩ => ⟨S32x124x256, .f32⟩
  | .hbm, ⟨28, _⟩ => ⟨S32x124x256, .f32⟩
  | .hbm, ⟨29, _⟩ => ⟨S32x1x124x256, .f32⟩
  | .hbm, ⟨30, _⟩ => ⟨S32x1x124x256, .f32⟩
  | .hbm, ⟨31, _⟩ => ⟨S32x1x124x256, .f32⟩
  | .hbm, ⟨32, _⟩ => ⟨S32x1x124x256, .f32⟩
  | .hbm, ⟨33, _⟩ => ⟨S32x1x124x256, .f32⟩
  | .hbm, ⟨34, _⟩ => ⟨S32x1x124x256, .f32⟩
  | .hbm, ⟨35, _⟩ => ⟨S32x1x124x256, .f32⟩
  | .hbm, ⟨36, _⟩ => ⟨S32x1x124x256, .f32⟩
  | .hbm, ⟨37, _⟩ => ⟨S32x1x124x256, .f32⟩
  | .hbm, ⟨38, _⟩ => ⟨S32x1x124x256, .f32⟩
  | .hbm, ⟨39, _⟩ => ⟨S32x10x124x256, .f32⟩
  | .hbm, ⟨40, _⟩ => ⟨S32x10x124x124, .f32⟩
  | .hbm, ⟨41, _⟩ => ⟨S32x10x124x124, .f32⟩
  | .hbm, ⟨42, _⟩ => ⟨S32x10x124x124, .f32⟩
  | .hbm, ⟨43, _⟩ => ⟨S32x10x124x124, .f32⟩
  | .hbm, ⟨44, _⟩ => ⟨S32x10x124x124, .f32⟩
  | .hbm, ⟨45, _⟩ => ⟨S32x10x124x124, .f32⟩
  | .hbm, ⟨46, _⟩ => ⟨S32x10x124x124, .f32⟩
  | .hbm, ⟨47, _⟩ => ⟨S32x10x124x124, .f32⟩
  | .hbm, ⟨48, _⟩ => ⟨S32x10x124x124, .f32⟩
  | .hbm, ⟨49, _⟩ => ⟨S32x10x124x124, .f32⟩
  | .hbm, ⟨50, _⟩ => ⟨S32x10x1x124x124, .f32⟩
  | .hbm, ⟨51, _⟩ => ⟨S32x10x1x124x124, .f32⟩
  | .hbm, ⟨52, _⟩ => ⟨S32x10x1x124x124, .f32⟩
  | .hbm, ⟨53, _⟩ => ⟨S32x10x1x124x124, .f32⟩
  | .hbm, ⟨54, _⟩ => ⟨S32x10x1x124x124, .f32⟩
  | .hbm, ⟨55, _⟩ => ⟨S32x10x1x124x124, .f32⟩
  | .hbm, ⟨56, _⟩ => ⟨S32x10x1x124x124, .f32⟩
  | .hbm, ⟨57, _⟩ => ⟨S32x10x1x124x124, .f32⟩
  | .hbm, ⟨58, _⟩ => ⟨S32x10x1x124x124, .f32⟩
  | .hbm, ⟨59, _⟩ => ⟨S32x10x1x124x124, .f32⟩
  | .hbm, ⟨60, _⟩ => ⟨S32x10x10x124x124, .f32⟩
  | .hbm, ⟨61, _⟩ => ⟨S10x10x10x10, .i32⟩
  | .hbm, ⟨62, _⟩ => ⟨S10x10x10x10, .i32⟩
  | .hbm, ⟨63, _⟩ => ⟨S10x10x10x10, .i32⟩
  | .hbm, ⟨64, _⟩ => ⟨S10x10x10x10, .i32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S10x10x10x10, .i32⟩
  | .hbm, ⟨70, _⟩ => ⟨S10x10x10x10, .i32⟩
  | .hbm, ⟨71, _⟩ => ⟨S10x10x10x10, .i32⟩
  | .hbm, ⟨72, _⟩ => ⟨S10x10x10x10, .f32⟩
  | .hbm, ⟨73, _⟩ => ⟨S10x10x10x10, .f32⟩
  | .hbm, ⟨74, _⟩ => ⟨S10x10x10x10, .f32⟩
  | .hbm, ⟨75, _⟩ => ⟨S_, .f32⟩
  | .hbm, ⟨76, _⟩ => ⟨S10x10x10x10, .f32⟩
  | .hbm, ⟨77, _⟩ => ⟨S10x10x10x10, .f32⟩
  | .hbm, ⟨78, _⟩ => ⟨S10x10x10x10, .f32⟩
  | .hbm, ⟨79, _⟩ => ⟨S32x124x124x10x10, .f32⟩
  | .hbm, ⟨80, _⟩ => ⟨S32x10x10x124x124, .f32⟩
  | .hbm, ⟨81, _⟩ => ⟨S_, .f32⟩
  | .hbm, ⟨82, _⟩ => ⟨S32x10x10x124x124, .f32⟩
  | .hbm, ⟨83, _⟩ => ⟨S32x10x10x124x124, .f32⟩
  | .hbm, ⟨84, _⟩ => ⟨S10x10x10x10, .f32⟩
  | .hbm, ⟨85, _⟩ => ⟨S32x124x124x10x10, .f32⟩
  | .hbm, ⟨86, _⟩ => ⟨S32x10x10x124x124, .f32⟩
  | .hbm, ⟨87, _⟩ => ⟨S32x10x10x124x124, .f32⟩
  | .hbm, ⟨88, _⟩ => ⟨S_, .f32⟩
  | .hbm, ⟨89, _⟩ => ⟨S32x10x10x124x124, .f32⟩
  | .hbm, ⟨90, _⟩ => ⟨S32x10x10x124x124, .f32⟩
  | .hbm, ⟨91, _⟩ => ⟨S32x10x10x124x124, .f32⟩
  | .hbm, ⟨92, _⟩ => ⟨S32x10x10x124x124, .f32⟩
  | .hbm, ⟨93, _⟩ => ⟨S32x10x10x124x124, .f32⟩
  | .hbm, ⟨94, _⟩ => ⟨S32x10x10x124x124, .f32⟩
  | .hbm, ⟨95, _⟩ => ⟨S32x5x10x124x124, .f32⟩
  | .hbm, ⟨96, _⟩ => ⟨S32x5x10x124x124, .f32⟩
  | .hbm, ⟨97, _⟩ => ⟨S32x10x10x124x124, .f32⟩
  | .hbm, ⟨98, _⟩ => ⟨S32x10x5x124x124, .f32⟩
  | .hbm, ⟨99, _⟩ => ⟨S32x10x5x124x124, .f32⟩
  | .hbm, ⟨100, _⟩ => ⟨S32x10x10x124x124, .f32⟩
  | .hbm, ⟨101, _⟩ => ⟨S_, .f32⟩
  | .hbm, ⟨102, _⟩ => ⟨S6, .f32⟩
  | .hbm, ⟨103, _⟩ => ⟨S_, .f32⟩
  | .hbm, ⟨104, _⟩ => ⟨S6, .f32⟩
  | .hbm, ⟨105, _⟩ => ⟨S6, .f32⟩
  | .hbm, ⟨106, _⟩ => ⟨S6x32x124x124, .f32⟩
  | .hbm, ⟨107, _⟩ => ⟨S32x6x124x124, .f32⟩
  | .hbm, ⟨108, _⟩ => ⟨S1x6x1x1, .f32⟩
  | .hbm, ⟨109, _⟩ => ⟨S32x6x124x124, .f32⟩
  | .hbm, ⟨110, _⟩ => ⟨S32x6x124x124, .f32⟩
  | .hbm, ⟨111, _⟩ => ⟨S_, .f32⟩
  | .hbm, ⟨112, _⟩ => ⟨S32x6x124x124, .f32⟩
  | .hbm, ⟨113, _⟩ => ⟨S32x6x124x124, .f32⟩
  | .hbm, ⟨114, _⟩ => ⟨S32x6x124x124, .f32⟩
  | .hbm, ⟨115, _⟩ => ⟨S_, .f32⟩
  | .hbm, ⟨116, _⟩ => ⟨S32x6x124x124, .f32⟩
  | .hbm, ⟨117, _⟩ => ⟨S32x6x124x124, .f32⟩
  | _, _ => ⟨S32x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_cst_3 : Ref sig .tc := ⟨.hbm, 65, rfl⟩
abbrev main_v60 : Ref sig .tc := ⟨.hbm, 66, rfl⟩
abbrev main_cst_4 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_cst_5 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_cst_6 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_cst_7 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_v85 : Ref sig .tc := ⟨.hbm, 100, rfl⟩
abbrev main_cst_8 : Ref sig .tc := ⟨.hbm, 101, rfl⟩
abbrev main_v86 : Ref sig .tc := ⟨.hbm, 102, rfl⟩
abbrev main_cst_9 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_10 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_11 : Ref sig .tc := ⟨.hbm, 115, rfl⟩
abbrev main_v97 : Ref sig .tc := ⟨.hbm, 116, rfl⟩
abbrev main_v98 : Ref sig .tc := ⟨.hbm, 117, rfl⟩

abbrev nD : Nat := 1
abbrev τ : Topo := Topo.v7x

variable {F : FTy → Type} [FloatOps F]
-- ==== Proof.Build.lean ====
/- What the first region leaves in its output block: per window position the grey level shifted to that position, and
   zeros in the padding. -/
module

public import proofs.«01_k».proof.Proof.Gen.KernelIdeal.Frame
public import Idealize.ShloMosaic.Lib.Pointwise
public import Idealize.ShloMosaic.Lib.IdealHost
public import Idealize.ShloMosaic.Lib.WholeRead
public import Idealize.ShloMosaic.Lib.UnfoldOut

@[expose] public section

set_option maxRecDepth 16384

noncomputable section

namespace Cert.KernelIdeal.Hand

open Idealize.ShloMosaic Idealize.ShloMosaic.TcCoe Idealize.ShloMosaic.Tactic Cert.KernelIdeal Cert.KernelIdeal.Gen

/-- The three grey weights. -/
abbrev G0 : Ideal .f32 := Scalar.ofBits .f32 0x3E99096C#32
abbrev G1 : Ideal .f32 := Scalar.ofBits .f32 0x3F1645A2#32
abbrev G2 : Ideal .f32 := Scalar.ofBits .f32 0x3DE978D5#32

/-- The grey level of a block at parities `py`, `px` and half coordinates `r`, `s`. -/
def grayB (x0 : Vec Ideal S1x2x2x3x128x128 .f32) (py px r s : ℕ) : EReal :=
  (G0 : EReal) * x0 (ix6 0 (Fin.ofNat 2 py) (Fin.ofNat 2 px) 0 (Fin.ofNat 128 r) (Fin.ofNat 128 s))
    + (G1 : EReal) * x0 (ix6 0 (Fin.ofNat 2 py) (Fin.ofNat 2 px) 1 (Fin.ofNat 128 r) (Fin.ofNat 128 s))
    + (G2 : EReal) * x0 (ix6 0 (Fin.ofNat 2 py) (Fin.ofNat 2 px) 2 (Fin.ofNat 128 r) (Fin.ofNat 128 s))

/-- The output block of the first region: entry `(o, h, w)` is the grey level at window row `o / 10`, column `o % 10`. -/
def Pblk (x0 : Vec Ideal S1x2x2x3x128x128 .f32) (y : S1x104x124x128.Idx) : EReal :=
  if (y 1).val < 100 ∧ (y 3).val < 124 then
    grayB x0 ((y 1).val / 10 % 2) ((y 1).val % 10 % 2) ((y 2).val + (y 1).val / 10 / 2) ((y 3).val + (y 1).val % 10 / 2)
  else 0

/-- A plane of loads of the block at parities `py`, `px`. -/
abbrev ldc (arg1 : Memref sig .tc .vmem S1x2x2x3x128x128 .f32) (harg1 : arg1.IsWhole) (x0 : Vec Ideal S1x2x2x3x128x128 .f32)
    (py px ch : ℕ) (h : ∀ a, (![0, py, px, ch, 0, 0] : Fin 6 → ℕ) a + S1x1x1x1x128x128.size a ≤ S1x2x2x3x128x128.size a) :
    Vec Ideal S1x1x1x1x128x128 .f32 :=
  View.readAt (Elt Ideal) arg1.view (Rect.unit (s := S1x2x2x3x128x128) ![0, py, px, ch, 0, 0] S1x1x1x1x128x128.size h).toLoadRect
    (harg1.unread x0)

theorem ldc_apply (arg1 : Memref sig .tc .vmem S1x2x2x3x128x128 .f32) (harg1 : arg1.IsWhole)
    (x0 : Vec Ideal S1x2x2x3x128x128 .f32) (py px ch : ℕ) (h) (hpy : py < 2) (hpx : px < 2) (hch : ch < 3) (r s : Fin 128) :
    ldc arg1 harg1 x0 py px ch h (ix6 0 0 0 0 r s)
      = x0 (ix6 0 (Fin.ofNat 2 py) (Fin.ofNat 2 px) (Fin.ofNat 3 ch) (Fin.ofNat 128 r) (Fin.ofNat 128 s)) := by
  unfold ldc
  rw [harg1.readAt_unread]
  congr 1
  funext a
  apply Fin.ext
  have h1 := r.2
  have h2 := s.2
  fin_cases a <;> simp [LoadRect.idx, Rect.toLoadRect, Rect.unit, ix6, Fin.ofNat] <;> omega

theorem plane00 (a b c : Vec Ideal S1x1x1x1x128x128 .f32) (r s : Fin 128) :
    k0_pay6 a b c (ix2 r s) = (G0 : EReal) * a (ix6 0 0 0 0 r s) + (G1 : EReal) * b (ix6 0 0 0 0 r s) + (G2 : EReal) * c (ix6 0 0 0 0 r s) := by
  pointwise [k0_pay6]

theorem plane01 (a b c : Vec Ideal S1x1x1x1x128x128 .f32) (r s : Fin 128) :
    k0_pay8 (k0_pay7 a b) c (ix2 r s) = (G0 : EReal) * a (ix6 0 0 0 0 r s) + (G1 : EReal) * b (ix6 0 0 0 0 r s) + (G2 : EReal) * c (ix6 0 0 0 0 r s) := by
  pointwise [k0_pay7, k0_pay8]

theorem plane10 (a b c : Vec Ideal S1x1x1x1x128x128 .f32) (r s : Fin 128) :
    k0_pay9 a b c (ix2 r s) = (G0 : EReal) * a (ix6 0 0 0 0 r s) + (G1 : EReal) * b (ix6 0 0 0 0 r s) + (G2 : EReal) * c (ix6 0 0 0 0 r s) := by
  pointwise [k0_pay9]

theorem plane11 (a b c : Vec Ideal S1x1x1x1x128x128 .f32) (r s : Fin 128) :
    k0_pay11 (k0_pay10 a) b c (ix2 r s) = (G0 : EReal) * a (ix6 0 0 0 0 r s) + (G1 : EReal) * b (ix6 0 0 0 0 r s) + (G2 : EReal) * c (ix6 0 0 0 0 r s) := by
  pointwise [k0_pay10, k0_pay11]

/-- A plane `g` is the grey level at the given parities. -/
def IsPlane (x0 : Vec Ideal S1x2x2x3x128x128 .f32) (py px : ℕ) (g : FVec Ideal S128x128 .f32) : Prop :=
  ∀ r s : Fin 128, g (ix2 r s) = grayB x0 py px r s

section Planes
variable (arg1 : Memref sig .tc .vmem S1x2x2x3x128x128 .f32) (harg1 : arg1.IsWhole) (x0 : Vec Ideal S1x2x2x3x128x128 .f32)

theorem isPlane00 (h0 h1 h2) :
    IsPlane x0 0 0 (k0_pay6 (ldc arg1 harg1 x0 0 0 0 h0) (ldc arg1 harg1 x0 0 0 1 h1) (ldc arg1 harg1 x0 0 0 2 h2)) := by
  intro r s
  rw [plane00]
  simp only [ldc_apply, Nat.lt_irrefl, Nat.one_lt_two, Nat.zero_lt_two, Nat.reduceLT]
  rfl

theorem isPlane01 (h0 h1 h2) :
    IsPlane x0 0 1 (k0_pay8 (k0_pay7 (ldc arg1 harg1 x0 0 1 0 h0) (ldc arg1 harg1 x0 0 1 1 h1)) (ldc arg1 harg1 x0 0 1 2 h2)) := by
  intro r s
  rw [plane01]
  simp only [ldc_apply, Nat.lt_irrefl, Nat.one_lt_two, Nat.zero_lt_two, Nat.reduceLT]
  rfl

theorem isPlane10 (h0 h1 h2) :
    IsPlane x0 1 0 (k0_pay9 (ldc arg1 harg1 x0 1 0 0 h0) (ldc arg1 harg1 x0 1 0 1 h1) (ldc arg1 harg1 x0 1 0 2 h2)) := by
  intro r s
  rw [plane10]
  simp only [ldc_apply, Nat.lt_irrefl, Nat.one_lt_two, Nat.zero_lt_two, Nat.reduceLT]
  rfl

theorem isPlane11 (h0 h1 h2) :
    IsPlane x0 1 1 (k0_pay11 (k0_pay10 (ldc arg1 harg1 x0 1 1 0 h0)) (ldc arg1 harg1 x0 1 1 1 h1) (ldc arg1 harg1 x0 1 1 2 h2)) := by
  intro r s
  rw [plane11]
  simp only [ldc_apply, Nat.lt_irrefl, Nat.one_lt_two, Nat.zero_lt_two, Nat.reduceLT]
  rfl

end Planes

/-- The coordinates of a rectangle's element. -/
theorem unit_emb_val {s : Shape} (off size : Fin s.rank → ℕ) (inb) (x : (Rect.unit (s := s) off size inb).shape.Idx) (a : Fin s.rank) :
    ((Rect.unit (s := s) off size inb).emb x a).val = off a + (x a).val := by
  simp [Rect.emb, Rect.unit, LoadRect.idx, Rect.toLoadRect]

/-- One stored window position agrees with the block. -/
theorem tap_piece (X : Vec Ideal S1x2x2x3x128x128 .f32) {py px : ℕ} {g : FVec Ideal S128x128 .f32} (hg : IsPlane X py px g)
    (o dy dx : ℕ) (inb) (hs) (hc) (ho : o < 100 ∧ o / 10 % 2 = py ∧ o % 10 % 2 = px ∧ o / 10 / 2 = dy ∧ o % 10 / 2 = dx)
    (x : S1x1x124x124.Idx) :
    shapeCast S1x1x124x124 (extractStridedSlice S124x124 ![dy, dx] g hs) hc x
      = Pblk X ((Rect.unit (s := S1x104x124x128) ![0, o, 0, 0] S1x1x124x124.size inb).emb x) := by
  obtain ⟨h0, rfl, rfl, rfl, rfl⟩ := ho
  have h1 : (x 1).val = 0 := by have := (x 1).2; change _ < 1 at this; omega
  have h2 : (x 2).val < 124 := (x 2).2
  have h3 : (x 3).val < 124 := (x 3).2
  have e1 : ((Rect.unit (s := S1x104x124x128) ![0, o, 0, 0] S1x1x124x124.size inb).emb x 1).val = o := by
    rw [unit_emb_val]; change o + (x 1).val = o; omega
  have e2 : ((Rect.unit (s := S1x104x124x128) ![0, o, 0, 0] S1x1x124x124.size inb).emb x 2).val = (x 2).val := by
    rw [unit_emb_val]; change 0 + (x 2).val = _; omega
  have e3 : ((Rect.unit (s := S1x104x124x128) ![0, o, 0, 0] S1x1x124x124.size inb).emb x 3).val = (x 3).val := by
    rw [unit_emb_val]; change 0 + (x 3).val = _; omega
  rw [Pblk, e1, e2, e3, if_pos ⟨h0, h3⟩]
  have hr : (x 2).val + o / 10 / 2 < 128 := by omega
  have hq : (x 3).val + o % 10 / 2 < 128 := by omega
  have key := hg ⟨_, hr⟩ ⟨_, hq⟩
  rw [← key]
  clear key e1 e2 e3
  idx_vars x
  pointwise
  congr 3 <;> exact Nat.add_comm _ _

theorem colpad_piece (X : Vec Ideal S1x2x2x3x128x128 .f32) (inb) (x : S1x104x124x4.Idx) :
    k0_pay4 (F := Ideal) x
      = Pblk X ((Rect.unit (s := S1x104x124x128) ![0, 0, 0, 124] S1x104x124x4.size inb).emb x) := by
  rw [Pblk, if_neg]
  · pointwise [k0_pay4]
  · rintro ⟨-, h⟩
    rw [unit_emb_val] at h
    change 124 + (x 3).val < 124 at h
    omega

theorem rowpad_piece (X : Vec Ideal S1x2x2x3x128x128 .f32) (inb) (x : S1x4x124x124.Idx) :
    k0_pay5 (F := Ideal) x
      = Pblk X ((Rect.unit (s := S1x104x124x128) ![0, 100, 0, 0] S1x4x124x124.size inb).emb x) := by
  rw [Pblk, if_neg]
  · pointwise [k0_pay5]
  · rintro ⟨h, -⟩
    rw [unit_emb_val] at h
    change 100 + (x 1).val < 100 at h
    omega

set_option maxHeartbeats 1000000 in
theorem out0_apply (c : Dev nD) (i : grid0.Coords) (arg1 : Memref sig .tc .vmem S1x2x2x3x128x128 .f32) (harg1 : arg1.IsWhole)
    (arg2 : Memref sig .tc .vmem S1x104x124x128 .f32) (harg2 : arg2.IsWhole)
    (x0 : Vec Ideal S1x2x2x3x128x128 .f32) (y : S1x104x124x128.Idx) :
    out0_A_1 c i arg1 harg1 arg2 harg2 x0 y = Pblk x0 y := by
  refine View.read_writes_apply_of_pieces VO0_1 _ (Pblk x0) _ ?_ y (cover0_A_1 c i arg1 harg1 arg2 harg2 x0 y)
  unfold kernelRun0_A
  dsimp only
  sl_unfold_words
  have p00 := isPlane00 arg1 harg1 x0 inb_S1x2x2x3x128x128_S1x1x1x1x128x128_0_0_0_0_0_0 inb_S1x2x2x3x128x128_S1x1x1x1x128x128_0_0_0_1_0_0 inb_S1x2x2x3x128x128_S1x1x1x1x128x128_0_0_0_2_0_0
  have p01 := isPlane01 arg1 harg1 x0 inb_S1x2x2x3x128x128_S1x1x1x1x128x128_0_0_1_0_0_0 inb_S1x2x2x3x128x128_S1x1x1x1x128x128_0_0_1_1_0_0 inb_S1x2x2x3x128x128_S1x1x1x1x128x128_0_0_1_2_0_0
  have p10 := isPlane10 arg1 harg1 x0 inb_S1x2x2x3x128x128_S1x1x1x1x128x128_0_1_0_0_0_0 inb_S1x2x2x3x128x128_S1x1x1x1x128x128_0_1_0_1_0_0 inb_S1x2x2x3x128x128_S1x1x1x1x128x128_0_1_0_2_0_0
  have p11 := isPlane11 arg1 harg1 x0 inb_S1x2x2x3x128x128_S1x1x1x1x128x128_0_1_1_0_0_0 inb_S1x2x2x3x128x128_S1x1x1x1x128x128_0_1_1_1_0_0 inb_S1x2x2x3x128x128_S1x1x1x1x128x128_0_1_1_2_0_0
  unfold ldc at p00 p01 p10 p11
  generalize k0_pay6 (F := Ideal) _ _ _ = g00 at p00 ⊢
  generalize k0_pay8 (F := Ideal) _ _ = g01 at p01 ⊢
  generalize k0_pay9 (F := Ideal) _ _ _ = g10 at p10 ⊢
  generalize k0_pay11 (F := Ideal) _ _ _ = g11 at p11 ⊢
  refine List.forall_mem_cons.2 ⟨?_, ?_⟩
  · intro x
    exact rowpad_piece x0 inb_S1x104x124x128_S1x4x124x124_0_100_0_0 x
  refine List.forall_mem_cons.2 ⟨?_, ?_⟩
  · intro x
    exact colpad_piece x0 inb_S1x104x124x128_S1x104x124x4_0_0_0_124 x
  iterate 100
    refine List.forall_mem_cons.2 ⟨?_, ?_⟩
    · intro x
      apply tap_piece x0
      all_goals first | assumption | decide
  exact List.forall_mem_nil _

end Cert.KernelIdeal.Hand

end
-- ==== Proof.Arrays.lean ====
/- The two regions' output arrays as functions of their input arrays. -/
module

public import proofs.«01_k».proof.Proof.Build
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic Cert.KernelIdeal Cert.KernelIdeal.Gen

variable (V : (c : Dev nD) → (b : Ref sig .tc) → Buf (Elt Ideal) ((c : Thread nD τ).loc b))

/-- The first region's array: each batch entry's block. -/
def P0 (A : Vec Ideal S32x2x2x3x128x128 .f32) : Vec Ideal S32x104x124x128 .f32 := fun i =>
  Pblk (fun x => A (ix6 (i 0) (x 1) (x 2) (x 3) (x 4) (x 5))) (ix4 0 (i 1) (i 2) (i 3))

theorem idx0 : ∀ t : Fin cfg0.N, win0_0.index t = ![(grid0.coords t 0).val, 0, 0, 0, 0, 0] ∧ win0_1.index t = ![(grid0.coords t 0).val, 0, 0, 0] :=
  (by decide +kernel : ∀ t : Fin grid0.N, _)

theorem final0 (c : Dev nD) : (dat0 V c).arrAt 1 cfg0.N = P0 (V c (Pipeline.arrRef spec0 0)) := by
  refine (dat0 V c).arrAt_eq_of_covers 1 _ (by decide +kernel) fun t hf y => ?_
  blk_simp
  rw [after0_1]
  unfold outsAt0
  rw [out0_apply]
  refine (congr (congrArg Pblk (funext fun x => ?_)) ?_ : Pblk (iblk0 V c 0 t) y = Pblk _ _)
  · idx_bounds x
    idx_bounds y
    blk_simp [iblk0]
    refine congrArg (V c (Pipeline.arrRef spec0 0)) ?_
    blk_ext [idx0 t]
  · idx_bounds y
    blk_ext [idx0 t]

theorem idx1 : ∀ t : Fin cfg1.N, win1_0.index t = ![(grid1.coords t 0).val, 0, (grid1.coords t 1).val] ∧ win1_1.index t = ![0, 0]
    ∧ win1_2.index t = ![(grid1.coords t 0).val, 0, (grid1.coords t 1).val] :=
  (by decide +kernel : ∀ t : Fin grid1.N, _)

/-- One column tile of a batch entry of the second region's input. -/
def tile1 (PT : Vec Ideal S32x104x15872 .f32) (b : Fin 32) (j : ℕ) : Vec Ideal S1x104x3968 .f32 := fun x =>
  PT (ix3 b (x 1) (Fin.ofNat 15872 (j * 3968 + (x 2).val)))

/-- The second region's array: the payload of each tile. -/
def D1 (PT : Vec Ideal S32x104x15872 .f32) (CS : Vec Ideal S168x312 .f32) : Vec Ideal S32x8x15872 .f32 := fun i =>
  k1_pay1 (k1_pay2 CS (tile1 PT (i 0) ((i 2).val / 3968))) (ix3 0 (i 1) (Fin.ofNat 3968 (i 2).val))

theorem final1 (c : Dev nD) :
    (dat1 V c).arrAt 2 cfg1.N = D1 (V c (Pipeline.arrRef spec1 0)) (V c (Pipeline.arrRef spec1 1)) := by
  refine (dat1 V c).arrAt_eq_of_covers 2 _ (by decide +kernel) fun t hf y => ?_
  blk_simp
  rw [after1_2]
  frame_out
  refine (congr (congrArg k1_pay1 (congr (congrArg k1_pay2 ?_) (funext fun x => ?_))) ?_ :
    k1_pay1 (k1_pay2 (iblk1 V c 1 t) (iblk1 V c 0 t)) y = k1_pay1 (k1_pay2 _ _) _)
  · funext x
    blk_simp [iblk1]
    refine congrArg (V c (Pipeline.arrRef spec1 1)) ?_
    blk_ext [idx1 t]
  · idx_bounds x
    idx_bounds y
    blk_simp [iblk1]
    refine congrArg (V c (Pipeline.arrRef spec1 0)) ?_
    have hj := (grid1.coords t 1).2
    change _ < 4 at hj
    blk_ext [idx1 t, Fin.ofNat]
  · idx_bounds y
    blk_ext [idx1 t]
    change (y 2).val = (_ * 3968 + (y 2).val) % 3968
    omega

end Cert.KernelIdeal.Hand

end
-- ==== Proof.Dft.lean ====
/- What the second region computes of one column: each row of the table against the column three times over, the
   square roots of the sums of squares added up per band. -/
module

public import proofs.«01_k».proof.Proof.Gen.KernelIdeal.Frame
public import Idealize.ShloMosaic.Lib.Pointwise

@[expose] public section

set_option maxRecDepth 16384

noncomputable section

namespace Cert.KernelIdeal.Hand

open Idealize.ShloMosaic Idealize.ShloMosaic.TcCoe Idealize.ShloMosaic.Tactic Cert.KernelIdeal Cert.KernelIdeal.Gen

/-- The column as the region stacks it: itself, itself less itself, itself. -/
def trip (p : Fin 104 → EReal) (j : Fin 312) : EReal :=
  if h : j.val < 104 then p ⟨j.val, h⟩
  else if h : j.val - 104 < 104 then p ⟨j.val - 104, h⟩ - p ⟨j.val - 104, h⟩
  else p ⟨j.val - 104 - 104, by omega⟩

/-- One row of the table against a stacked column. -/
def krow (cs : Vec Ideal S168x312 .f32) (p : Fin 104 → EReal) (i : Fin 168) : EReal :=
  ∑ j : Fin 312, cs (ix2 i j) * trip p j

/-- The amplitude of row `i`: its cosine and sine sums. -/
def kamp (cs : Vec Ideal S168x312 .f32) (p : Fin 104 → EReal) (i : Fin 84) : EReal :=
  Ideal.sqrt (krow cs p ⟨i.val, by omega⟩ * krow cs p ⟨i.val, by omega⟩
    + krow cs p ⟨84 + i.val, by omega⟩ * krow cs p ⟨84 + i.val, by omega⟩)

/-- A band's value of a column: rows `o` to `o + n` of the table. -/
def kband (cs : Vec Ideal S168x312 .f32) (p : Fin 104 → EReal) (o n : ℕ) (h : o + n ≤ 84) : EReal :=
  Ideal.log ((∑ x : Fin n, kamp cs p ⟨o + x.val, by omega⟩) + Ideal.ofBits .f32 0x358637BD#32)
    * Ideal.ofBits .f32 0x3EDE5BD9#32

variable (cs : Vec Ideal S168x312 .f32) (p : Vec Ideal S1x104x3968 .f32) (n : Fin 3968)

theorem pay_apply0 : k1_pay1 (k1_pay2 cs p) (ix3 0 0 n) = kband cs (fun q => p (ix3 0 q n)) 0 4 (by decide) := by
  unfold kband kamp krow trip
  pointwise [k1_pay1, k1_pay2]

theorem pay_apply1 : k1_pay1 (k1_pay2 cs p) (ix3 0 1 n) = kband cs (fun q => p (ix3 0 q n)) 4 10 (by decide) := by
  unfold kband kamp krow trip
  pointwise [k1_pay1, k1_pay2]

theorem pay_apply2 : k1_pay1 (k1_pay2 cs p) (ix3 0 2 n) = kband cs (fun q => p (ix3 0 q n)) 14 16 (by decide) := by
  unfold kband kamp krow trip
  pointwise [k1_pay1, k1_pay2]

theorem pay_apply3 : k1_pay1 (k1_pay2 cs p) (ix3 0 3 n) = kband cs (fun q => p (ix3 0 q n)) 30 18 (by decide) := by
  unfold kband kamp krow trip
  pointwise [k1_pay1, k1_pay2]

theorem pay_apply4 : k1_pay1 (k1_pay2 cs p) (ix3 0 4 n) = kband cs (fun q => p (ix3 0 q n)) 48 27 (by decide) := by
  unfold kband kamp krow trip
  pointwise [k1_pay1, k1_pay2]

theorem pay_apply5 : k1_pay1 (k1_pay2 cs p) (ix3 0 5 n) = kband cs (fun q => p (ix3 0 q n)) 75 9 (by decide) := by
  unfold kband kamp krow trip
  pointwise [k1_pay1, k1_pay2]

end Cert.KernelIdeal.Hand

end
-- ==== Proof.Table.lean ====
/- The table of weighted cosines and sines, as the operations before the second launch leave it. -/
module

public import proofs.«01_k».proof.Proof.Arrays
public import proofs.«01_k».proof.Proof.Dft
public import Idealize.ShloMosaic.Lib.StableHlo.ReadAt
public import Idealize.ShloMosaic.Lib.Routing.OpsSet

@[expose] public section

set_option maxRecDepth 16384
noncomputable section
namespace Cert.KernelIdeal.Hand
open Idealize.ShloMosaic Idealize.ShloMosaic.TcCoe Idealize.ShloMosaic.Tactic Cert.KernelIdeal Cert.KernelIdeal.Gen
variable (m : (ℓ : Loc nD τ sig) → Buf (Elt Ideal) ℓ) (ρ : Dev nD → PrngReg)

theorem lands (idx : IVec S1 32) (hidx : ∀ j, idx j = 0#32) (k : S168x100.Idx) (i : Fin 168) (j : Fin 104) :
    scatter_S168x104_S1_S168x100_01_n_1_0.resultIdx? k idx = some (ix2 i j) ↔ (k 0).val = i.val ∧ (k 1).val = j.val := by
  rw [Routing.resultIdx?_eq_some]
  have h0 : scatter_S168x104_S1_S168x100_01_n_1_0.start k idx 0 = 0 := by
    simp [ScatterDims.start, scatter_S168x104_S1_S168x100_01_n_1_0]
  have h1 : scatter_S168x104_S1_S168x100_01_n_1_0.start k idx 1 = 0 := by
    simp [ScatterDims.start, scatter_S168x104_S1_S168x100_01_n_1_0, hidx]
  have w0 : scatter_S168x104_S1_S168x100_01_n_1_0.window k 0 = (k 0).val := rfl
  have w1 : scatter_S168x104_S1_S168x100_01_n_1_0.window k 1 = (k 1).val := rfl
  constructor
  · intro h
    have a := h 0
    have b := h 1
    rw [h0, w0] at a
    rw [h1, w1] at b
    change _ = (i.val : Int) at a
    change _ = (j.val : Int) at b
    omega
  · rintro ⟨a, b⟩ x
    match x with
    | ⟨0, _⟩ => change _ = (i.val : Int); erw [h0, w0]; omega
    | ⟨1, _⟩ => change _ = (j.val : Int); erw [h1, w1]; omega

/-- The padded table: the first hundred columns, and nothing in the last four. -/
theorem pad_apply (x : S168x100.Idx → EReal) (i : Fin 168) (j : Fin 104) :
    Host.scatter (α := Ideal .f32) scatter_S168x104_S1_S168x100_01_n_1_0 (fun _ b => b) (broadcastInDim S168x104 ![] bcast_S_S168x104 (constant S_ FTy.f32 0#32))
        (broadcastInDim S1 ![] bcast_S_S1 (constantI S_ 32 0#32)) x (ix2 i j)
      = if h : j.val < 100 then x (ix2 i ⟨j.val, h⟩) else (0 : EReal) := by
  have hidx : ∀ j, broadcastInDim S1 ![] bcast_S_S1 (constantI S_ 32 0#32) j = 0#32 := fun _ => rfl
  split
  · rename_i h
    refine Routing.scatter_set_hit _ _ _ _ _ _ (fun k hk => ?_) (ix2 i ⟨j.val, h⟩) ((lands _ hidx _ i j).mpr ⟨rfl, rfl⟩)
    obtain ⟨h0, h1⟩ := (lands _ hidx k i j).mp hk
    refine congrArg x (funext fun a => ?_)
    match a with
    | ⟨0, _⟩ => exact Fin.ext h0
    | ⟨1, _⟩ => exact Fin.ext h1
  · rename_i h
    refine (Routing.scatter_set_miss _ _ _ _ _ (fun k hk => ?_)).trans ?_
    · obtain ⟨h0, h1⟩ := (lands _ hidx k i j).mp hk
      exact h (h1 ▸ (k 1).isLt)
    · pointwise

/-- One entry of the table before padding: row `i`'s weight times a cosine or a sine. -/
def wave (f : EReal → EReal) (i : Fin 84) (y x : ℕ) : EReal :=
  Ideal.div (Ideal.ofBits .f32 (lit2 (S84.rowMajor (ix1 i)))) (Ideal.ofBits .f32 (lit3 (S84.rowMajor (ix1 i)))) * f (Ideal.div (Ideal.ofBits .f32 1073741824#32 * Ideal.acos (Ideal.ofBits .f32 3212836864#32) * FloatOps.sitofp (F := Ideal) .f32 (IntOp.remsi ArithUnit.host (IntOp.addi (IntOp.muli (lit0 (S84.rowMajor (ix1 i))) (BitVec.ofNat 32 y)) (IntOp.muli (lit1 (S84.rowMajor (ix1 i))) (BitVec.ofNat 32 x))) 10#32)) (Ideal.ofBits .f32 1092616192#32))

/-- The padded table's entries. -/
def tab (i : Fin 168) (q : ℕ) : EReal :=
  if q < 100 then if h : i.val < 84 then wave Ideal.cos ⟨i.val, h⟩ (q / 10) (q % 10) else wave Ideal.sin ⟨i.val - 84, by omega⟩ (q / 10) (q % 10) else 0

/-- The padded table before it is split, at an entry. -/
theorem padded_apply (x : S168x100.Idx → Ideal .f32) (i : Fin 168) (j : Fin 104)
    (hx : ∀ (h : j.val < 100), x (ix2 i ⟨j.val, h⟩) = if h : i.val < 84 then wave Ideal.cos ⟨i.val, h⟩ (j.val / 10) (j.val % 10) else wave Ideal.sin ⟨i.val - 84, by omega⟩ (j.val / 10) (j.val % 10)) :
    Host.scatter (α := Ideal .f32) scatter_S168x104_S1_S168x100_01_n_1_0 (fun _ b => b) (broadcastInDim S168x104 ![] bcast_S_S168x104 (constant S_ FTy.f32 0#32))
        (broadcastInDim S1 ![] bcast_S_S1 (constantI S_ 32 0#32)) x (ix2 i j) = tab i j.val := by
  refine (pad_apply x i j).trans ?_
  unfold tab
  split
  · exact hx _
  · rfl

/-- The table's leading part. -/
theorem v34_apply (c : Dev nD) (i : Fin 168) (j : Fin 104) :
    (StableHlo.upto hostOps0 (W0 m ρ c) 48 (Proc.tc.devRef main_call0_v34) (ix2 i j) : EReal) = tab i j.val := by
  after_reads_at
  refine padded_apply _ i j fun h => ?_
  unfold wave
  after_reads_at

/-- The table's remainder: the table less its leading part, which the exact arithmetic has to be the table itself. -/
theorem v37_apply (c : Dev nD) (i : Fin 168) (j : Fin 104) :
    (StableHlo.upto hostOps0 (W0 m ρ c) 48 (Proc.tc.devRef main_call0_v37) (ix2 i j) : EReal) = tab i j.val - tab i j.val := by
  after_reads_at
  refine congrArg₂ (fun a b : EReal => a - b) (padded_apply _ i j fun h => ?_) (padded_apply _ i j fun h => ?_)
  all_goals
    unfold wave
    after_reads_at

/-- The whole table: the leading part twice, then the remainder. -/
theorem W1_v38 (c : Dev nD) (i : Fin 168) (j : Fin 312) :
    (W1 m ρ c (Proc.devRef .tc main_call0_v38) (ix2 i j)  : EReal)
      = if j.val < 104 then tab i j.val else if j.val - 104 < 104 then tab i (j.val - 104) else tab i (j.val - 104 - 104) - tab i (j.val - 104 - 104) := by
  unfold W1
  after_reads_at
  split
  · exact v34_apply m ρ c i ⟨j.val, by assumption⟩
  · split
    · exact v34_apply m ρ c i ⟨j.val - 104, by assumption⟩
    · exact v37_apply m ρ c i ⟨j.val - 104 - 104, by omega⟩

end Cert.KernelIdeal.Hand
end
-- ==== Proof.Sums.lean ====
/- Sums of products over the extended reals: what survives at the infinities. -/
module

public import Idealize.ShloMosaic.PureOps.Ideal

@[expose] public section

noncomputable section

namespace Cert.Hand

open Idealize.ShloMosaic

/-- `x` is one of the two infinities. -/
def Inf (x : EReal) : Prop := x = ⊤ ∨ x = ⊥

theorem inf_or_real (x : EReal) : Inf x ∨ ∃ r : ℝ, x = (r : EReal) := by
  induction x using EReal.rec with
  | bot => exact .inl (.inr rfl)
  | coe r => exact .inr ⟨r, rfl⟩
  | top => exact .inl (.inl rfl)

theorem not_inf_coe (r : ℝ) : ¬ Inf (r : EReal) := by
  rintro (h | h)
  · exact EReal.coe_ne_top r h
  · exact EReal.coe_ne_bot r h

theorem Inf.add {x : EReal} (h : Inf x) (y : EReal) : Inf (x + y) := by
  rcases h with rfl | rfl
  · by_cases hy : y = ⊥
    · subst hy; exact .inr (by simp)
    · exact .inl (EReal.top_add_of_ne_bot hy)
  · exact .inr (EReal.bot_add y)

theorem Inf.sum {ι : Type*} [DecidableEq ι] {s : Finset ι} {f : ι → EReal} {i : ι} (hi : i ∈ s) (h : Inf (f i)) : Inf (∑ j ∈ s, f j) := by
  rw [← Finset.add_sum_erase s f hi]
  exact h.add _

theorem Inf.sq {x : EReal} (h : Inf x) : x * x = ⊤ := by
  rcases h with rfl | rfl <;> simp

theorem Inf.neg {x : EReal} (h : Inf x) : Inf (-x) := by
  rcases h with rfl | rfl
  · exact .inr (by simp)
  · exact .inl (by simp)

theorem Inf.coe_mul {x : EReal} (h : Inf x) {t : ℝ} (ht : t ≠ 0) : Inf ((t : EReal) * x) := by
  rcases lt_or_gt_of_ne ht with ht | ht <;> rcases h with rfl | rfl
  · exact .inr (EReal.coe_mul_top_of_neg ht)
  · exact .inl (EReal.coe_mul_bot_of_neg ht)
  · exact .inl (EReal.coe_mul_top_of_pos ht)
  · exact .inr (EReal.coe_mul_bot_of_pos ht)

/-- A sum of real numbers, cast. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The square of a sum does not see a common sign. -/
theorem sq_sum_neg {ι : Type*} (s : Finset ι) (f : ι → EReal) :
    (∑ i ∈ s, - f i) * (∑ i ∈ s, - f i) = (∑ i ∈ s, f i) * (∑ i ∈ s, f i) := by
  classical
  by_cases h : ∃ i ∈ s, Inf (f i)
  · obtain ⟨i, hi, h⟩ := h
    rw [(Inf.sum hi h).sq, (Inf.sum (f := fun i => - f i) hi h.neg).sq]
  · have hr : ∀ i ∈ s, f i = ((f i).toReal : EReal) := fun i hi => by
      rcases inf_or_real (f i) with h' | ⟨r, h'⟩
      · exact absurd ⟨i, hi, h'⟩ h
      · rw [h', EReal.toReal_coe]
    rw [Finset.sum_congr rfl hr, Finset.sum_congr rfl (fun i hi => by rw [EReal.coe_neg, ← hr i hi] : ∀ i ∈ s, - f i = ((-(f i).toReal : ℝ) : EReal)),
      ← coe_sum, ← coe_sum, Finset.sum_neg_distrib, ← EReal.coe_mul, ← EReal.coe_mul, neg_mul_neg]

/-- A row against a column, plus the row against the column less itself: the square is that of the first sum. -/
theorem sq_sum_residue {ι : Type*} (s : Finset ι) (a : ι → ℝ) (p : ι → EReal) :
    ((∑ i ∈ s, (a i : EReal) * p i) + ∑ i ∈ s, (a i : EReal) * (p i - p i)) * ((∑ i ∈ s, (a i : EReal) * p i) + ∑ i ∈ s, (a i : EReal) * (p i - p i))
      = (∑ i ∈ s, (a i : EReal) * p i) * (∑ i ∈ s, (a i : EReal) * p i) := by
  classical
  by_cases h : ∃ i ∈ s, Inf ((a i : EReal) * p i)
  · obtain ⟨i, hi, h⟩ := h
    have hs := Inf.sum (f := fun i => (a i : EReal) * p i) hi h
    rw [hs.sq, (hs.add _).sq]
  · rw [Finset.sum_eq_zero (f := fun i => (a i : EReal) * (p i - p i)), add_zero]
    intro i hi
    rcases inf_or_real (p i) with h' | ⟨r, h'⟩
    · by_cases ha : a i = 0
      · rw [ha, EReal.coe_zero, zero_mul]
      · exact absurd ⟨i, hi, h'.coe_mul ha⟩ h
    · rw [h', ← EReal.coe_sub, sub_self, EReal.coe_zero, mul_zero]

/-- A positive real factor goes through a sum. -/
theorem mul_sum_pos {ι : Type*} (s : Finset ι) (f : ι → EReal) {t : ℝ} (ht : 0 ≤ t) :
    (t : EReal) * ∑ i ∈ s, f i = ∑ i ∈ s, (t : EReal) * f i := by
  classical
  induction s using Finset.induction_on with
  | empty => simp
  | insert a s ha ih =>
    rw [Finset.sum_insert ha, Finset.sum_insert ha, EReal.left_distrib_of_nonneg_of_ne_top (by exact_mod_cast ht) (EReal.coe_ne_top t), ih]

/-- A sum of squares is not below zero. -/
theorem sq_add_cases (x y : EReal) : x * x + y * y = ⊤ ∨ ∃ a b : ℝ, x = a ∧ y = b := by
  rcases inf_or_real x with hx | ⟨a, rfl⟩
  · left
    rw [hx.sq]
    rcases inf_or_real y with hy | ⟨b, rfl⟩
    · rw [hy.sq]; rfl
    · rw [← EReal.coe_mul]; exact EReal.top_add_coe _
  · rcases inf_or_real y with hy | ⟨b, rfl⟩
    · left; rw [hy.sq, ← EReal.coe_mul]; exact EReal.coe_add_top _
    · exact .inr ⟨a, b, rfl, rfl⟩

/-- A positive real factor goes out of the root of a sum of two squares. -/
theorem sqrt_scale (x y : EReal) {t : ℝ} (ht : 0 < t) :
    Ideal.sqrt (((t : EReal) * x) * ((t : EReal) * x) + ((t : EReal) * y) * ((t : EReal) * y))
      = (t : EReal) * Ideal.sqrt (x * x + y * y) := by
  have e : ((t : EReal) * x) * ((t : EReal) * x) + ((t : EReal) * y) * ((t : EReal) * y) = ((t * t : ℝ) : EReal) * (x * x + y * y) := by
    rw [EReal.left_distrib_of_nonneg_of_ne_top (by exact_mod_cast (mul_pos ht ht).le) (EReal.coe_ne_top _), EReal.coe_mul,
      mul_mul_mul_comm, mul_mul_mul_comm (t : EReal) y]
  rw [e]
  rcases sq_add_cases x y with h | ⟨a, b, rfl, rfl⟩
  · rw [h, EReal.coe_mul_top_of_pos (mul_pos ht ht)]
    change (⊤ : EReal) = (t : EReal) * ⊤
    rw [EReal.coe_mul_top_of_pos ht]
  · have h : 0 ≤ a * a + b * b := add_nonneg (mul_self_nonneg a) (mul_self_nonneg b)
    rw [← EReal.coe_mul, ← EReal.coe_mul, ← EReal.coe_add, ← EReal.coe_mul, Ideal.sqrt_coe, Ideal.sqrt_coe,
      if_neg (not_lt.mpr (mul_nonneg (mul_self_nonneg t) h)), if_neg (not_lt.mpr h), ← EReal.coe_mul, Real.sqrt_mul (by positivity), Real.sqrt_mul_self ht.le]

/-- Two weighted sums of one function over keys agree when each key's total weight does. -/
theorem regroup {ι κ M : Type*} [Fintype ι] [Fintype κ] [DecidableEq κ] [AddCommMonoid M] (w : ι → ℕ) (r : ι → κ) (f : κ → M) :
    ∑ i, w i • f (r i) = ∑ k, (∑ i, if r i = k then w i else 0) • f k := by
  have h : ∀ k, (∑ i, if r i = k then w i else 0) • f k = ∑ i, if r i = k then w i • f k else 0 := fun k => by
    rw [Finset.sum_smul]
    exact Finset.sum_congr rfl fun i _ => by split <;> simp
  rw [Finset.sum_congr rfl fun k _ => h k, Finset.sum_comm]
  exact Finset.sum_congr rfl fun i _ => by rw [Finset.sum_ite_eq]; simp

end Cert.Hand

end
-- ==== Proof.Plane.lean ====
/- The amplitudes of a ten by ten patch's discrete Fourier transform: their symmetry, and what a table of weighted
   cosines and sines computes of them. -/
module

public import proofs.«01_k».proof.Proof.Sums
public import Mathlib.Analysis.SpecialFunctions.Trigonometric.Basic

@[expose] public section

noncomputable section

namespace Cert.Hand

open Idealize.ShloMosaic

/-- The angle of `n` tenths of a turn. -/
def ang (n : ℕ) : ℝ := 2 * Real.pi * n / 10

theorem cos_ang_mod (n : ℕ) : Real.cos (ang (n % 10)) = Real.cos (ang n) := by
  have h : ang n = ang (n % 10) + ((n / 10 : ℕ) : ℝ) * (2 * Real.pi) := by
    have e : (n : ℝ) = ((n % 10 : ℕ) : ℝ) + 10 * ((n / 10 : ℕ) : ℝ) := by exact_mod_cast (Nat.mod_add_div n 10).symm
    unfold ang
    rw [e]
    ring
  rw [h, Real.cos_add_nat_mul_two_pi]

theorem sin_ang_mod (n : ℕ) : Real.sin (ang (n % 10)) = Real.sin (ang n) := by
  have h : ang n = ang (n % 10) + ((n / 10 : ℕ) : ℝ) * (2 * Real.pi) := by
    have e : (n : ℝ) = ((n % 10 : ℕ) : ℝ) + 10 * ((n / 10 : ℕ) : ℝ) := by exact_mod_cast (Nat.mod_add_div n 10).symm
    unfold ang
    rw [e]
    ring
  rw [h, Real.sin_add_nat_mul_two_pi]

/-- Two angles that make whole turns together. -/
theorem ang_turn {n n' k : ℕ} (h : n + n' = 10 * k) : ang n' = (k : ℝ) * (2 * Real.pi) - ang n := by
  have e : (n : ℝ) + n' = 10 * k := by exact_mod_cast h
  unfold ang
  rw [show (n' : ℝ) = 10 * k - n by linarith]
  ring

theorem cos_ang_turn {n n' k : ℕ} (h : n + n' = 10 * k) : Real.cos (ang n') = Real.cos (ang n) := by
  rw [ang_turn h, Real.cos_nat_mul_two_pi_sub]

theorem sin_ang_turn {n n' k : ℕ} (h : n + n' = 10 * k) : Real.sin (ang n') = -Real.sin (ang n) := by
  rw [ang_turn h, Real.sin_nat_mul_two_pi_sub]

/-- A patch against one wave: `g` is the cosine or the sine. -/
def against (g : ℝ → ℝ) (p : Fin 10 → Fin 10 → EReal) (u v : ℕ) : EReal :=
  ∑ z : Fin 10 × Fin 10, p z.1 z.2 * ((g (ang (u * z.1.val + v * z.2.val)) : ℝ) : EReal)

/-- Ten times the amplitude of a patch at the frequency `(u, v)`. -/
def amp (p : Fin 10 → Fin 10 → EReal) (u v : ℕ) : EReal :=
  Ideal.sqrt (against Real.cos p u v * against Real.cos p u v + against Real.sin p u v * against Real.sin p u v)

/-- Opposite frequencies have one amplitude. -/
theorem amp_twin (p : Fin 10 → Fin 10 → EReal) {u v u' v' a b : ℕ} (hu : u + u' = 10 * a) (hv : v + v' = 10 * b) : amp p u' v' = amp p u v := by
  have h (z : Fin 10 × Fin 10) : (u * z.1.val + v * z.2.val) + (u' * z.1.val + v' * z.2.val) = 10 * (a * z.1.val + b * z.2.val) := by
    calc _ = (u + u') * z.1.val + (v + v') * z.2.val := by ring
      _ = _ := by rw [hu, hv]; ring
  have hc : against Real.cos p u' v' = against Real.cos p u v :=
    Finset.sum_congr rfl fun z _ => by rw [cos_ang_turn (h z)]
  have hs : against Real.sin p u' v' = ∑ z : Fin 10 × Fin 10, -(p z.1 z.2 * ((Real.sin (ang (u * z.1.val + v * z.2.val)) : ℝ) : EReal)) :=
    Finset.sum_congr rfl fun z _ => by rw [sin_ang_turn (h z), EReal.coe_neg, mul_neg]
  unfold amp
  rw [hc, hs, sq_sum_neg]
  rfl

/-- The frequency opposite to `n = 10 u + v`. -/
def twin (n : ℕ) : ℕ := (10 - n / 10) % 10 * 10 + (10 - n % 10) % 10

/-- The smaller of a frequency and its opposite. -/
def rep (n : ℕ) : ℕ := min n (twin n)

theorem amp_rep (p : Fin 10 → Fin 10 → EReal) {n : ℕ} (hn : n < 100) : amp p (rep n / 10) (rep n % 10) = amp p (n / 10) (n % 10) := by
  unfold rep
  rcases le_total n (twin n) with h | h
  · rw [min_eq_left h]
  · rw [min_eq_right h]
    have e1 : twin n / 10 = (10 - n / 10) % 10 := by unfold twin; omega
    have e2 : twin n % 10 = (10 - n % 10) % 10 := by unfold twin; omega
    rw [e1, e2]
    exact amp_twin p (a := (n / 10 + (10 - n / 10) % 10) / 10) (b := (n % 10 + (10 - n % 10) % 10) / 10) (by omega) (by omega)

/-- A table row of weighted waves against a patch padded by four entries. -/
theorem row_eq (g : ℝ → ℝ) (p : Fin 10 → Fin 10 → EReal) (q : Fin 104 → EReal) (r : Fin 104 → ℝ) (u v : ℕ) {t : ℝ} (ht : 0 ≤ t)
    (hq : ∀ y x : Fin 10, q ⟨y.val * 10 + x.val, by omega⟩ = p y x)
    (hr : ∀ y x : Fin 10, r ⟨y.val * 10 + x.val, by omega⟩ = t * g (ang (u * y.val + v * x.val)))
    (h0 : ∀ j : Fin 104, 100 ≤ j.val → r j = 0) :
    ∑ j, (r j : EReal) * q j = (t : EReal) * against g p u v := by
  have e : ∑ j : Fin 104, (r j : EReal) * q j = ∑ j : Fin 100, (r ⟨j.val, by omega⟩ : EReal) * q ⟨j.val, by omega⟩ := by
    rw [show (∑ j : Fin 104, (r j : EReal) * q j) = ∑ j : Fin (100 + 4), (r j : EReal) * q j from rfl, Fin.sum_univ_add,
      Finset.sum_eq_zero (s := (Finset.univ : Finset (Fin 4))) fun j _ => by rw [h0 _ (by simp), EReal.coe_zero, zero_mul], add_zero]
    rfl
  rw [e, against, mul_sum_pos _ _ ht]
  rw [← Equiv.sum_comp (finProdFinEquiv (m := 10) (n := 10)) fun j : Fin (10 * 10) => (r ⟨j.val, by omega⟩ : EReal) * q ⟨j.val, by omega⟩]
  refine Finset.sum_congr rfl fun z _ => ?_
  have hz : ∀ h, (⟨(finProdFinEquiv (m := 10) (n := 10) z).val, h⟩ : Fin 104) = ⟨z.1.val * 10 + z.2.val, by omega⟩ :=
    fun h => Fin.ext (by simp [finProdFinEquiv]; omega)
  rw [hz, hq, hr, EReal.coe_mul, mul_assoc, mul_comm (p z.1 z.2)]

end Cert.Hand

end
-- ==== Proof.Keys.lean ====
/- Which frequencies the kernel's rows stand for, with which weights, and that each band's weights are the ones that
   the ring masks give once opposite frequencies are taken together. -/
module

public import proofs.«01_k».proof.Proof.Plane

@[expose] public section

noncomputable section

namespace Cert.Hand

open Idealize.ShloMosaic

/-- The `i`-th decimal digit of `d`, from the right. -/
abbrev digit (d i : ℕ) : ℕ := d / 10 ^ i % 10

/-- Row `i`'s frequency along the height. -/
abbrev rowY (i : ℕ) : ℕ := digit 776666555009998888777777666666665555009999888777776666009999988888777700999988880099 i
/-- Row `i`'s frequency along the width. -/
abbrev rowX (i : ℕ) : ℕ := digit 654765765654654765438765321098760987764376386210971098873298721097109898210810980909 i
/-- Row `i`'s weight. -/
abbrev rowW (i : ℕ) : ℕ := digit 112112121111122112221111221111111221111111211211111111111111121111111111121111111111 i
/-- The ring that the cell `10 y + x` of the centred spectrum lies in. -/
abbrev ring (n : ℕ) : ℕ := digit 5544444455544333344544322223444322111234432100123443210012344321111234443222234454433334455544444455 n

/-- A band's first row. -/
abbrev off : Fin 6 → ℕ := ![0, 4, 14, 30, 48, 75]
/-- A band's number of rows. -/
abbrev len : Fin 6 → ℕ := ![4, 10, 16, 18, 27, 9]
/-- A ring's number of cells. -/
abbrev cnt : Fin 6 → ℕ := ![4, 11, 17, 20, 36, 12]

theorem off_len (k : Fin 6) : off k + len k ≤ 84 := by revert k; decide

/-- Row `i`'s frequency. -/
abbrev rowKey (i : ℕ) : ℕ := rowY i * 10 + rowX i
/-- The frequency at the cell `(y, x)` of the centred spectrum. -/
abbrev cellKey (z : Fin 10 × Fin 10) : ℕ := (z.1.val + 5) % 10 * 10 + (z.2.val + 5) % 10
/-- Whether the cell `(y, x)` lies in ring `k`. -/
abbrev cellW (k : Fin 6) (z : Fin 10 × Fin 10) : ℕ := if ring (z.1.val * 10 + z.2.val) = k.val then 1 else 0

theorem weights : ∀ (k : Fin 6) (n : Fin 100),
    (∑ x : Fin (len k), if rep (rowKey (off k + x.val)) = n.val then rowW (off k + x.val) else 0)
      = ∑ z : Fin 10 × Fin 10, if rep (cellKey z) = n.val then cellW k z else 0 := by
  decide +kernel

theorem cells : ∀ k : Fin 6, ∑ z : Fin 10 × Fin 10, cellW k z = cnt k := by
  decide +kernel

theorem rowY_lt (i : ℕ) : rowY i < 10 := Nat.mod_lt _ (by decide)
theorem rowX_lt (i : ℕ) : rowX i < 10 := Nat.mod_lt _ (by decide)

/-- The band's rows and the ring's cells add up to one sum of amplitudes. -/
theorem band_sum (p : Fin 10 → Fin 10 → EReal) (k : Fin 6) :
    ∑ x : Fin (len k), rowW (off k + x.val) • amp p (rowY (off k + x.val)) (rowX (off k + x.val))
      = ∑ z : Fin 10 × Fin 10, cellW k z • amp p ((z.1.val + 5) % 10) ((z.2.val + 5) % 10) := by
  have hr (n : ℕ) (hn : n < 100) : rep n < 100 := lt_of_le_of_lt (min_le_left _ _) hn
  have hk (x : Fin (len k)) : rowKey (off k + x.val) < 100 := by
    have := rowY_lt (off k + x.val); have := rowX_lt (off k + x.val)
    change rowY _ * 10 + rowX _ < 100; omega
  have hc (z : Fin 10 × Fin 10) : cellKey z < 100 := by change _ % 10 * 10 + _ % 10 < 100; omega
  have key (a b : ℕ) (ha : a < 10) (hb : b < 10) : amp p a b = amp p (rep (a * 10 + b) / 10) (rep (a * 10 + b) % 10) := by
    rw [amp_rep p (by omega), show (a * 10 + b) / 10 = a by omega, show (a * 10 + b) % 10 = b by omega]
  have hl := regroup (fun x : Fin (len k) => rowW (off k + x.val)) (fun x => (⟨rep (rowKey (off k + x.val)), hr _ (hk x)⟩ : Fin 100))
    (fun n => amp p (n.val / 10) (n.val % 10))
  have hl' := regroup (cellW k) (fun z => (⟨rep (cellKey z), hr _ (hc z)⟩ : Fin 100)) (fun n => amp p (n.val / 10) (n.val % 10))
  refine Eq.trans (Finset.sum_congr rfl fun x _ => ?_) ((hl.trans (Finset.sum_congr rfl fun n _ => ?_)).trans (hl'.symm.trans (Finset.sum_congr rfl fun z _ => ?_)))
  · rw [key _ _ (rowY_lt _) (rowX_lt _)]
  · simp only [Fin.ext_iff]
    rw [weights k n]
  · change _ • amp p (rep (cellKey z) / 10) (rep (cellKey z) % 10) = _
    rw [← key _ _ (Nat.mod_lt _ (by decide)) (Nat.mod_lt _ (by decide))]

end Cert.Hand

end
-- ==== Proof.Words.lean ====
/- The constants that both programs spell as words, as real numbers. -/
module

public import proofs.«01_k».proof.Proof.Keys
public import Idealize.ShloMosaic.Lib.IdealHost

@[expose] public section

noncomputable section

namespace Cert.Hand

open Idealize.ShloMosaic

theorem bits_one : Ideal.ofBits .f32 0x3F800000#32 = ((1 : ℝ) : EReal) := by rw [Ideal.ofBits_one_f32]; rfl
theorem bits_two : Ideal.ofBits .f32 0x40000000#32 = ((2 : ℝ) : EReal) := by
  simp [Ideal.ofBits, Ideal.ieee, -EReal.coe_mul]; norm_num
theorem bits_ten : Ideal.ofBits .f32 0x41200000#32 = ((10 : ℝ) : EReal) := by
  simp [Ideal.ofBits, Ideal.ieee, -EReal.coe_mul]; norm_num
theorem bits_neg_one : Ideal.ofBits .f32 0xBF800000#32 = ((-1 : ℝ) : EReal) := by
  simp [Ideal.ofBits, Ideal.ieee, -EReal.coe_mul, -EReal.coe_neg]; norm_num

theorem pi_coe : Ideal.acos (Ideal.ofBits .f32 0xBF800000#32) = ((Real.pi : ℝ) : EReal) := by
  rw [bits_neg_one, Ideal.acos_coe, if_pos (by norm_num), Real.arccos_neg_one]

/-- A quotient of reals whose divisor is not zero. -/
theorem div_coe (x : EReal) {d : ℝ} (hd : d ≠ 0) : Ideal.div x (d : EReal) = x * ((d⁻¹ : ℝ) : EReal) := by
  unfold Ideal.div
  rw [if_neg (by exact_mod_cast hd), EReal.coe_inv]

theorem cnt_pos (k : Fin 6) : (0 : ℝ) < cnt k := by
  have : 0 < cnt k := by revert k; decide
  exact_mod_cast this

/-- The mean over a ring of a patch's centred amplitudes. -/
def ringMean (p : Fin 10 → Fin 10 → EReal) (k : Fin 6) : EReal :=
  (((10 * (cnt k : ℝ))⁻¹ : ℝ) : EReal) * ∑ z : Fin 10 × Fin 10, cellW k z • amp p ((z.1.val + 5) % 10) ((z.2.val + 5) % 10)

end Cert.Hand

end
-- ==== Proof.Rows.lean ====
/- The kernel's rows as real numbers, and a row's amplitude. -/
module

public import proofs.«01_k».proof.Proof.Table
public import proofs.«01_k».proof.Proof.Words

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Hand

/-- The word of ten times the number of cells of ring `k`. -/
abbrev denW : Fin 6 → BitVec 32 := ![0x42200000#32, 0x42DC0000#32, 0x432A0000#32, 0x43480000#32, 0x43B40000#32, 0x42F00000#32]

theorem bits_den (k : Fin 6) : Ideal.ofBits .f32 (denW k) = ((10 * (cnt k : ℝ) : ℝ) : EReal) := by
  match k with
  | 0 => simp [Ideal.ofBits, Ideal.ieee, -EReal.coe_mul]; norm_num
  | 1 => simp [Ideal.ofBits, Ideal.ieee, -EReal.coe_mul]; norm_num
  | 2 => simp [Ideal.ofBits, Ideal.ieee, -EReal.coe_mul]; norm_num
  | 3 => simp [Ideal.ofBits, Ideal.ieee, -EReal.coe_mul]; norm_num
  | 4 => simp [Ideal.ofBits, Ideal.ieee, -EReal.coe_mul]; norm_num
  | 5 => simp [Ideal.ofBits, Ideal.ieee, -EReal.coe_mul]; norm_num

theorem keys : ∀ i : Fin 84, lit0 i = BitVec.ofNat 32 (rowY i) ∧ lit1 i = BitVec.ofNat 32 (rowX i)
    ∧ lit2 i = (if rowW i = 1 then 0x3F800000#32 else 0x40000000#32) ∧ (rowW i = 1 ∨ rowW i = 2) := by
  decide +kernel

theorem dens : ∀ (k : Fin 6) (i : Fin 84), off k ≤ i.val → i.val < off k + len k → lit3 i = denW k := by
  decide +kernel

theorem rem_word : ∀ a b y x : Fin 10,
    (IntOp.remsi .host (IntOp.addi (IntOp.muli (BitVec.ofNat 32 a.val) (BitVec.ofNat 32 y.val)) (IntOp.muli (BitVec.ofNat 32 b.val) (BitVec.ofNat 32 x.val))) 10#32).toInt
      = (((a.val * y.val + b.val * x.val) % 10 : ℕ) : ℤ) := by
  decide +kernel

theorem row_index (i : Fin 84) : S84.rowMajor (ix1 i) = i := Fin.ext (by
  rw [rowMajor_val1]; rfl)

theorem bits_weight (i : Fin 84) : Ideal.ofBits .f32 (lit2 i) = (((rowW i : ℕ) : ℝ) : EReal) := by
  obtain ⟨-, -, h, h'⟩ := keys i
  rw [h]
  rcases h' with h' | h' <;> rw [h']
  · rw [if_pos rfl, bits_one, Nat.cast_one]
  · rw [if_neg (by decide), bits_two, Nat.cast_ofNat]

/-- Row `i`'s factor, of band `k`. -/
def weight (k : Fin 6) (i : ℕ) : ℝ := (rowW i : ℝ) * (10 * (cnt k : ℝ))⁻¹

theorem wave_coe (f : EReal → EReal) (g : ℝ → ℝ) (hf : ∀ r : ℝ, f r = (g r : EReal)) (k : Fin 6) (i : Fin 84) (h : off k ≤ i.val) (h' : i.val < off k + len k)
    (y x : Fin 10) : wave f i y.val x.val = ((weight k i * g (ang ((rowY i * y.val + rowX i * x.val) % 10)) : ℝ) : EReal) := by
  obtain ⟨h0, h1, -, -⟩ := keys i
  have hw := rem_word ⟨rowY i, rowY_lt _⟩ ⟨rowX i, rowX_lt _⟩ y x
  unfold wave
  rw [row_index, bits_weight, dens k i h h', bits_den, div_coe _ (by have := cnt_pos k; positivity), h0, h1]
  change _ * f (Ideal.div (_ * _ * ((((IntOp.remsi .host _ 10#32).toInt : ℤ) : ℝ) : EReal)) _) = _
  rw [hw, pi_coe, show (1073741824#32 : BitVec 32) = 0x40000000#32 from rfl, bits_two, show (1092616192#32 : BitVec 32) = 0x41200000#32 from rfl, bits_ten,
    div_coe _ (by norm_num), ← EReal.coe_mul, ← EReal.coe_mul, ← EReal.coe_mul, ← EReal.coe_mul, hf, ← EReal.coe_mul]
  unfold weight ang
  rw [Int.cast_natCast, div_eq_mul_inv]

end Cert.KernelIdeal.Hand

end
-- ==== Proof.Amp.lean ====
/- A row's sums against a stacked column, and the kernel's band value as one sum of amplitudes over a ring. -/
module

public import proofs.«01_k».proof.Proof.Rows

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Hand

/-- A row of the stacked table, spelt by the table. -/
def IsTable (cs : Vec Ideal S168x312 .f32) : Prop :=
  ∀ (i : Fin 168) (j : Fin 312), (cs (ix2 i j) : EReal)
    = if j.val < 104 then tab i j.val else if j.val - 104 < 104 then tab i (j.val - 104) else tab i (j.val - 104 - 104) - tab i (j.val - 104 - 104)

/-- A sum over three stacked parts. -/
theorem sum_three (f : Fin 312 → EReal) :
    ∑ j, f j = (∑ j : Fin 104, f ⟨j.val, by omega⟩) + (∑ j : Fin 104, f ⟨104 + j.val, by omega⟩) + ∑ j : Fin 104, f ⟨208 + j.val, by omega⟩ := by
  rw [show (∑ j : Fin 312, f j) = ∑ j : Fin (208 + 104), f j from rfl, Fin.sum_univ_add]
  refine congrArg₂ (· + ·) ?_ rfl
  rw [show (∑ j : Fin 208, f (Fin.castAdd 104 j)) = ∑ j : Fin (104 + 104), f (Fin.castAdd 104 j) from rfl, Fin.sum_univ_add]
  rfl

theorem krow_eq {cs : Vec Ideal S168x312 .f32} (hcs : IsTable cs) (q : Fin 104 → EReal) (i : Fin 168) (r : Fin 104 → ℝ) (hr : ∀ j : Fin 104, tab i j.val = (r j : EReal)) :
    krow cs q i = (∑ j, (r j : EReal) * q j) + ∑ j, (r j : EReal) * (q j - q j) := by
  have h0 (j : Fin 104) : cs (ix2 i (⟨j.val, by omega⟩ : Fin 312)) * trip q (⟨j.val, by omega⟩ : Fin 312) = (r j : EReal) * q j := by
    refine congrArg₂ (fun a b : EReal => a * b) ?_ ?_
    · rw [hcs, if_pos j.isLt]; exact hr j
    · unfold trip; rw [dif_pos j.isLt]
  have h1 (j : Fin 104) : cs (ix2 i (⟨104 + j.val, by omega⟩ : Fin 312)) * trip q (⟨104 + j.val, by omega⟩ : Fin 312) = (r j : EReal) * (q j - q j) := by
    have e : 104 + j.val - 104 = j.val := by omega
    refine congrArg₂ (fun a b : EReal => a * b) ?_ ?_
    · rw [hcs]; dsimp only
      rw [if_neg (by omega), if_pos (by omega), e]; exact hr j
    · unfold trip; dsimp only
      rw [dif_neg (by omega), dif_pos (by omega)]
      simp only [e]
  have h2 (j : Fin 104) : cs (ix2 i (⟨208 + j.val, by omega⟩ : Fin 312)) * trip q (⟨208 + j.val, by omega⟩ : Fin 312) = (0 : EReal) := by
    have e : 208 + j.val - 104 - 104 = j.val := by omega
    have z : (cs (ix2 i (⟨208 + j.val, by omega⟩ : Fin 312)) : EReal) = 0 := by
      rw [hcs]; dsimp only
      rw [if_neg (by omega), if_neg (by omega), e, hr j, ← EReal.coe_sub, sub_self, EReal.coe_zero]
    exact (congrArg (fun a : EReal => a * trip q (⟨208 + j.val, by omega⟩ : Fin 312)) z).trans (zero_mul _)
  unfold krow
  refine (sum_three _).trans ?_
  rw [Finset.sum_congr rfl fun j _ => h0 j, Finset.sum_congr rfl fun j _ => h1 j, Finset.sum_eq_zero fun j _ => h2 j, add_zero]

theorem krow_sq {cs : Vec Ideal S168x312 .f32} (hcs : IsTable cs) (q : Fin 104 → EReal) (i : Fin 168) (r : Fin 104 → ℝ) (hr : ∀ j : Fin 104, tab i j.val = (r j : EReal)) :
    krow cs q i * krow cs q i = (∑ j, (r j : EReal) * q j) * ∑ j, (r j : EReal) * q j := by
  rw [krow_eq hcs q i r hr, sq_sum_residue]

/-- A table row in reals. -/
def real (g : ℝ → ℝ) (k : Fin 6) (i : ℕ) (j : Fin 104) : ℝ :=
  if j.val < 100 then weight k i * g (ang ((rowY i * (j.val / 10) + rowX i * (j.val % 10)) % 10)) else 0

section Row

variable (k : Fin 6) (i : Fin 84) (h : off k ≤ i.val) (h' : i.val < off k + len k)

include h h' in
theorem tab_cos (j : Fin 104) : tab ⟨i.val, by omega⟩ j.val = (real Real.cos k i j : EReal) := by
  unfold tab real
  split
  · rw [dif_pos i.isLt]
    exact wave_coe Ideal.cos Real.cos Ideal.cos_coe k i h h' ⟨j.val / 10, by omega⟩ ⟨j.val % 10, by omega⟩
  · exact EReal.coe_zero.symm

include h h' in
theorem tab_sin (j : Fin 104) : tab ⟨84 + i.val, by omega⟩ j.val = (real Real.sin k i j : EReal) := by
  unfold tab real
  split
  · rw [dif_neg (by simp)]
    have e : (⟨84 + i.val - 84, by omega⟩ : Fin 84) = i := Fin.ext (by simp)
    rw [e]
    exact wave_coe Ideal.sin Real.sin Ideal.sin_coe k i h h' ⟨j.val / 10, by omega⟩ ⟨j.val % 10, by omega⟩
  · exact EReal.coe_zero.symm

theorem weight_pos (k : Fin 6) (i : Fin 84) : 0 < weight k i := by
  have h : 0 < rowW i := by rcases (keys i).2.2.2 with h | h <;> omega
  have hw : (0 : ℝ) < (rowW i : ℕ) := by exact_mod_cast h
  have := cnt_pos k
  unfold weight
  exact mul_pos hw (inv_pos.mpr (by linarith))

include h h' in
theorem kamp_eq {cs : Vec Ideal S168x312 .f32} (hcs : IsTable cs) (q : Fin 104 → EReal) (p : Fin 10 → Fin 10 → EReal)
    (hq : ∀ y x : Fin 10, q ⟨y.val * 10 + x.val, by omega⟩ = p y x) :
    kamp cs q i = (weight k i : EReal) * amp p (rowY i) (rowX i) := by
  have hrow (g : ℝ → ℝ) (hg : ∀ n, g (ang (n % 10)) = g (ang n)) : ∑ j, (real g k i j : EReal) * q j = (weight k i : EReal) * against g p (rowY i) (rowX i) := by
    refine row_eq g p q (real g k i) _ _ (weight_pos k i).le hq (fun y x => ?_) (fun j hj => if_neg (by omega))
    unfold real
    rw [if_pos (by dsimp only; omega), hg]
    dsimp only
    rw [show (y.val * 10 + x.val) / 10 = y.val by omega, show (y.val * 10 + x.val) % 10 = x.val by omega]
  unfold kamp
  rw [krow_sq hcs q _ _ (tab_cos k i h h'), krow_sq hcs q _ _ (tab_sin k i h h'), hrow _ cos_ang_mod, hrow _ sin_ang_mod, sqrt_scale _ _ (weight_pos k i)]
  rfl

end Row

/-- A band's value is the logarithm of its ring's mean amplitude. -/
theorem kband_eq {cs : Vec Ideal S168x312 .f32} (hcs : IsTable cs) (q : Fin 104 → EReal) (p : Fin 10 → Fin 10 → EReal)
    (hq : ∀ y x : Fin 10, q ⟨y.val * 10 + x.val, by omega⟩ = p y x) (k : Fin 6) :
    kband cs q (off k) (len k) (off_len k)
      = Ideal.log (ringMean p k + Ideal.ofBits .f32 0x358637BD#32) * Ideal.ofBits .f32 0x3EDE5BD9#32 := by
  have hol := off_len k
  unfold kband ringMean
  rw [← band_sum, mul_sum_pos _ _ (inv_nonneg.mpr (by have := cnt_pos k; linarith))]
  refine congrArg (fun s : EReal => Ideal.log (s + Ideal.ofBits .f32 0x358637BD#32) * Ideal.ofBits .f32 0x3EDE5BD9#32) (Finset.sum_congr rfl fun x _ => ?_)
  rw [kamp_eq k ⟨off k + x.val, by omega⟩ (by simp) (by simp) hcs q p hq]
  unfold weight
  rw [EReal.nsmul_eq_mul, EReal.coe_mul, mul_comm ((((rowW (off k + x.val) : ℕ) : ℝ)) : EReal), mul_assoc]
  rfl

end Cert.KernelIdeal.Hand

end
-- ==== Proof.KHost.lean ====
/- The host lines around the two regions, each buffer a region or the result reads, at an index. -/
module

public import proofs.«01_k».proof.Proof.Arrays
public import proofs.«01_k».proof.Proof.Dft
public import Idealize.ShloMosaic.Lib.StableHlo.ReadAt

@[expose] public section

set_option maxRecDepth 16384

noncomputable section

namespace Cert.KernelIdeal.Hand

open Idealize.ShloMosaic Idealize.ShloMosaic.TcCoe Idealize.ShloMosaic.Tactic Cert.KernelIdeal Cert.KernelIdeal.Gen

variable (m : (ℓ : Loc nD τ sig) → Buf (Elt Ideal) ℓ) (ρ : Dev nD → PrngReg)

/-- The first region's input: the image cut by parities. -/
theorem W1_v1 (c : Dev nD) (b : Fin 32) (py px : Fin 2) (ch : Fin 3) (r s : Fin 128) :
    W1 m ρ c (Proc.devRef .tc main_call0_v1) (ix6 b py px ch r s)
      = m ((c : Thread nD τ).loc main_arg0) (ix4 b ch (⟨r.val * 2 + py.val, by omega⟩ : Fin 256) (⟨s.val * 2 + px.val, by omega⟩ : Fin 256)) := by
  unfold W1
  after_reads_at

theorem W3_v40 (c : Dev nD) (b : Fin 32) (q : Fin 104) (h : Fin 124) (w : Fin 128) :
    W3 m ρ c (Proc.devRef .tc main_call0_v40) (ix3 b q (⟨h.val * 128 + w.val, by omega⟩ : Fin 15872))
      = W2 m ρ c (Proc.devRef .tc main_call0_v39) (ix4 b q h w) := by
  unfold W3
  after_reads_at

theorem W5_v0 (c : Dev nD) (b : Fin 32) (k : Fin 6) (h w : Fin 124) :
    W5 m ρ c (Proc.devRef .tc main_v0) (ix4 b k h w)
      = W4 m ρ c (Proc.devRef .tc main_call0_v41) (ix3 b (⟨k.val, by omega⟩ : Fin 8) (⟨h.val * 128 + w.val, by omega⟩ : Fin 15872)) := by
  unfold W5
  after_reads_at

end Cert.KernelIdeal.Hand

end
-- ==== Proof.KRun.lean ====
/- The kernel's run with its result named: the launch of the two regions among the host lines, the last boundary's
   contents read at the result. -/
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- Every weakly fair run ends with the result at the last boundary's contents and the argument as launched. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c => ⟨h c _ (mem_uc main_v0 (by decide)),
      (h c _ (mem_uc main_arg0 (by decide))).trans (W5_main_arg0 m ρ c)⟩)

end Cert.KernelIdeal.Hand

end
-- ==== Proof.KValue.lean ====
/- What the kernel computes at one position of the result. -/
module

public import proofs.«01_k».proof.Proof.Amp
public import proofs.«01_k».proof.Proof.KHost
public import proofs.«01_k».proof.Proof.KRun

@[expose] public section

set_option maxRecDepth 16384

noncomputable section

namespace Cert.KernelIdeal.Hand

open Idealize.ShloMosaic Idealize.ShloMosaic.TcCoe Idealize.ShloMosaic.Tactic Cert.KernelIdeal Cert.KernelIdeal.Gen Cert.Hand

/-- The second region's block, at any band. -/
theorem pay_apply (cs : Vec Ideal S168x312 .f32) (p : Vec Ideal S1x104x3968 .f32) (n : Fin 3968) (k : Fin 6) :
    k1_pay1 (k1_pay2 cs p) (ix3 0 (⟨k.val, by omega⟩ : Fin 8) n) = kband cs (fun q => p (ix3 0 q n)) (off k) (len k) (off_len k) := by
  match k with
  | 0 => exact pay_apply0 cs p n
  | 1 => exact pay_apply1 cs p n
  | 2 => exact pay_apply2 cs p n
  | 3 => exact pay_apply3 cs p n
  | 4 => exact pay_apply4 cs p n
  | 5 => exact pay_apply5 cs p n

variable (m : (ℓ : Loc nD τ sig) → Buf (Elt Ideal) ℓ) (ρ : Dev nD → PrngReg)

/-- The grey image's patch at the position `(h, w)`, as the kernel weighs the colours. -/
def kpatch (X : S32x3x256x256.Idx → EReal) (b : Fin 32) (h w : Fin 124) (y x : Fin 10) : EReal :=
  G0 * X (ix4 b 0 (⟨y.val + 2 * h.val, by omega⟩ : Fin 256) (⟨x.val + 2 * w.val, by omega⟩ : Fin 256))
    + G1 * X (ix4 b 1 (⟨y.val + 2 * h.val, by omega⟩ : Fin 256) (⟨x.val + 2 * w.val, by omega⟩ : Fin 256))
    + G2 * X (ix4 b 2 (⟨y.val + 2 * h.val, by omega⟩ : Fin 256) (⟨x.val + 2 * w.val, by omega⟩ : Fin 256))

/-- The first region's output: the patches' entries, one plane each. -/
theorem plane_apply (c : Dev nD) (b : Fin 32) (h w : Fin 124) (y x : Fin 10) :
    P0 (W1 m ρ c (Proc.devRef .tc main_call0_v1)) (ix4 b (⟨y.val * 10 + x.val, by omega⟩ : Fin 104) h (⟨w.val, by omega⟩ : Fin 128))
      = kpatch (m ((c : Thread nD τ).loc main_arg0)) b h w y x := by
  have key (ch : Fin 3) : (fun a : S1x2x2x3x128x128.Idx => W1 m ρ c (Proc.devRef .tc main_call0_v1) (ix6 b (a 1) (a 2) (a 3) (a 4) (a 5)))
      (ix6 0 (Fin.ofNat 2 ((y.val * 10 + x.val) / 10 % 2)) (Fin.ofNat 2 ((y.val * 10 + x.val) % 10 % 2)) ch (Fin.ofNat 128 (h.val + (y.val * 10 + x.val) / 10 / 2)) (Fin.ofNat 128 (w.val + (y.val * 10 + x.val) % 10 / 2)))
      = m ((c : Thread nD τ).loc main_arg0) (ix4 b ch (⟨y.val + 2 * h.val, by omega⟩ : Fin 256) (⟨x.val + 2 * w.val, by omega⟩ : Fin 256)) := by
    refine (W1_v1 m ρ c b _ _ ch _ _).trans ?_
    have e1 : (h.val + (y.val * 10 + x.val) / 10 / 2) % 128 * 2 + (y.val * 10 + x.val) / 10 % 2 % 2 = y.val + 2 * h.val := by omega
    have e2 : (w.val + (y.val * 10 + x.val) % 10 / 2) % 128 * 2 + (y.val * 10 + x.val) % 10 % 2 % 2 = x.val + 2 * w.val := by omega
    exact congrArg₂ (fun r s : Fin 256 => m ((c : Thread nD τ).loc main_arg0) (ix4 b ch r s)) (Fin.ext e1) (Fin.ext e2)
  unfold P0 Pblk
  rw [if_pos ⟨by change y.val * 10 + x.val < 100; omega, w.isLt⟩]
  unfold grayB kpatch
  exact congrArg₂ (fun a b : EReal => a + b) (congrArg₂ (fun a b : EReal => a + b) (congrArg (fun a : EReal => G0 * a) (key 0)) (congrArg (fun a : EReal => G1 * a) (key 1))) (congrArg (fun a : EReal => G2 * a) (key 2))

/-- The table is untouched between its making and the second region. -/
theorem table_kept (c : Dev nD) : W3 m ρ c (Proc.devRef .tc main_call0_v38) = W1 m ρ c (Proc.devRef .tc main_call0_v38) :=
  (W3_of m ρ c main_call0_v38 (by decide)).trans (W2_of_ne m ρ c main_call0_v38 (by decide))

theorem value (c : Dev nD) (b : Fin 32) (k : Fin 6) (h w : Fin 124) :
    W5 m ρ c (Proc.devRef .tc main_v0) (ix4 b k h w)
      = Ideal.log (ringMean (kpatch (m ((c : Thread nD τ).loc main_arg0)) b h w) k + Ideal.ofBits .f32 0x358637BD#32) * Ideal.ofBits .f32 0x3EDE5BD9#32 := by
  refine (W5_v0 m ρ c b k h w).trans ?_
  have a4 : W4 m ρ c (Proc.devRef .tc main_call0_v41) = D1 (W3 m ρ c (Proc.devRef .tc main_call0_v40)) (W3 m ρ c (Proc.devRef .tc main_call0_v38)) :=
    (W4_arr m ρ c 2).trans (final1 _ c)
  rw [a4]
  unfold D1
  have ek : (⟨(h.val * 128 + w.val) % 3968, Nat.mod_lt _ (by decide)⟩ : Fin 3968) = Fin.ofNat 3968 (h.val * 128 + w.val) := rfl
  refine (pay_apply _ _ (Fin.ofNat 3968 (h.val * 128 + w.val)) k).trans ?_
  refine kband_eq (fun i j => ?_) _ (kpatch (m ((c : Thread nD τ).loc main_arg0)) b h w) (fun y x => ?_) k
  · exact (congrFun (table_kept m ρ c) (ix2 i j)).trans (W1_v38 m ρ c i j)
  · have a2 : W2 m ρ c (Proc.devRef .tc main_call0_v39) = P0 (W1 m ρ c (Proc.devRef .tc main_call0_v1)) := (W2_arr m ρ c 1).trans (final0 _ c)
    refine Eq.trans ?_ (plane_apply m ρ c b h w y x)
    rw [← a2]
    refine Eq.trans ?_ (W3_v40 m ρ c b (⟨y.val * 10 + x.val, by omega⟩ : Fin 104) h (⟨w.val, by omega⟩ : Fin 128))
    unfold tile1
    refine congrArg (fun s : Fin 15872 => W3 m ρ c (Proc.devRef .tc main_call0_v40) (ix3 b (⟨y.val * 10 + x.val, by omega⟩ : Fin 104) s)) (Fin.ext ?_)
    change ((h.val * 128 + w.val) / 3968 * 3968 + (h.val * 128 + w.val) % 3968) % 15872 = h.val * 128 + w.val
    omega

end Cert.KernelIdeal.Hand

end
-- ==== Proof.RefValue.lean ====
/- What the reference computes at one position of the result. -/
module

public import proofs.«01_k».proof.Proof.Gen.ReferenceIdeal.Run
public import proofs.«01_k».proof.Proof.Words
public import Idealize.ShloMosaic.Lib.Pointwise
public import Idealize.ShloMosaic.Lib.IdealHost
public import Idealize.ShloMosaic.Lib.Quiescent

@[expose] public section

set_option maxRecDepth 16384

noncomputable section

namespace Cert.ReferenceIdeal.Hand

open Idealize.ShloMosaic Idealize.ShloMosaic.TcCoe Idealize.ShloMosaic.Tactic Cert.ReferenceIdeal Cert.ReferenceIdeal.Gen Cert.ReferenceIdeal.Value Cert.Hand

variable (V : Valuation τ sig (Elt Ideal))

/-- The grey image. -/
def gray (X : S32x3x256x256.Idx → EReal) (b : Fin 32) (r s : Fin 256) : EReal :=
  Ideal.ofBits .f32 1050216812#32 * X (ix4 b 0 r s) + Ideal.ofBits .f32 1058424226#32 * X (ix4 b 1 r s) + Ideal.ofBits .f32 1038710997#32 * X (ix4 b 2 r s)

theorem v13_apply (b : Fin 32) (r s : Fin 256) : res_main_v13 V (ix3 b r s) = gray (V (Proc.devRef .tc main_arg0)) b r s := by
  unfold res_main_v13 gray
  pointwise

theorem v34_apply (b : Fin 32) (y : Fin 10) (h : Fin 124) (s : Fin 256) :
    res_main_v34 V (ix4 b y h s) = res_main_v13 V (ix3 b (⟨y.val + 2 * h.val, by omega⟩ : Fin 256) s) := by
  unfold res_main_v34
  pointwise
  match y with
  | 0 => simp
  | 1 => simp
  | 2 => simp
  | 3 => simp
  | 4 => simp
  | 5 => simp
  | 6 => simp
  | 7 => simp
  | 8 => simp
  | 9 => simp

theorem v55_apply (b : Fin 32) (y x : Fin 10) (h w : Fin 124) :
    res_main_v55 V (ix5 b y x h w) = res_main_v34 V (ix4 b y h (⟨x.val + 2 * w.val, by omega⟩ : Fin 256)) := by
  unfold res_main_v55
  pointwise
  match x with
  | 0 => simp
  | 1 => simp
  | 2 => simp
  | 3 => simp
  | 4 => simp
  | 5 => simp
  | 6 => simp
  | 7 => simp
  | 8 => simp
  | 9 => simp

/-- The patch of the grey image at the position `(h, w)`. -/
def patch (X : S32x3x256x256.Idx → EReal) (b : Fin 32) (h w : Fin 124) (y x : Fin 10) : EReal :=
  gray X b ⟨y.val + 2 * h.val, by omega⟩ ⟨x.val + 2 * w.val, by omega⟩

theorem patch_apply (b : Fin 32) (y x : Fin 10) (h w : Fin 124) :
    res_main_v55 V (ix5 b y x h w) = patch (V (Proc.devRef .tc main_arg0)) b h w y x :=
  (v55_apply V b y x h w).trans ((v34_apply V b y h _).trans (v13_apply V b _ _))

theorem angle_word : ∀ a b y x : Fin 10,
    (IntOp.addi (IntOp.muli (BitVec.ofNat 32 a.val) (BitVec.ofNat 32 y.val)) (IntOp.muli (BitVec.ofNat 32 b.val) (BitVec.ofNat 32 x.val))).toInt
      = ((a.val * y.val + b.val * x.val : ℕ) : ℤ) := by
  decide +kernel

theorem angle_apply (u v y x : Fin 10) : res_main_v69 V (ix4 u v y x) = ((ang (u.val * y.val + v.val * x.val) : ℝ) : EReal) := by
  unfold res_main_v69
  pointwise
  change Ideal.div (_ * _ * (((BitVec.toInt _ : ℤ) : ℝ) : EReal)) _ = _
  rw [angle_word, pi_coe, show (1073741824#32 : BitVec 32) = 0x40000000#32 from rfl, bits_two, show (1092616192#32 : BitVec 32) = 0x41200000#32 from rfl, bits_ten,
    div_coe _ (by norm_num), ← EReal.coe_mul, ← EReal.coe_mul, ← EReal.coe_mul]
  unfold ang
  rw [Int.cast_natCast, div_eq_mul_inv]

theorem re_apply (b : Fin 32) (u v : Fin 10) (h w : Fin 124) :
    res_main_v74 V (ix5 b u v h w) = against Real.cos (patch (V (Proc.devRef .tc main_arg0)) b h w) u.val v.val * (((10 : ℝ)⁻¹ : ℝ) : EReal) := by
  unfold res_main_v74
  pointwise
  rw [bits_ten, div_coe _ (by norm_num)]
  refine congrArg (fun s : EReal => s * (((10 : ℝ)⁻¹ : ℝ) : EReal)) ?_
  rw [against, Fintype.sum_prod_type_right]
  refine Finset.sum_congr rfl fun x _ => Finset.sum_congr rfl fun y _ => ?_
  rw [patch_apply, angle_apply, Ideal.cos_coe]

theorem im_apply (b : Fin 32) (u v : Fin 10) (h w : Fin 124) :
    res_main_v80 V (ix5 b u v h w) = - against Real.sin (patch (V (Proc.devRef .tc main_arg0)) b h w) u.val v.val * (((10 : ℝ)⁻¹ : ℝ) : EReal) := by
  unfold res_main_v80
  pointwise
  rw [bits_ten, div_coe _ (by norm_num)]
  refine congrArg (fun s : EReal => - s * (((10 : ℝ)⁻¹ : ℝ) : EReal)) ?_
  rw [against, Fintype.sum_prod_type_right]
  refine Finset.sum_congr rfl fun x _ => Finset.sum_congr rfl fun y _ => ?_
  rw [patch_apply, angle_apply, Ideal.sin_coe]

theorem amp_apply (b : Fin 32) (u v : Fin 10) (h w : Fin 124) :
    res_main_v84 V (ix5 b u v h w) = (((10 : ℝ)⁻¹ : ℝ) : EReal) * amp (patch (V (Proc.devRef .tc main_arg0)) b h w) u.val v.val := by
  unfold res_main_v84
  pointwise
  rw [re_apply, im_apply, neg_mul, neg_mul_neg, mul_comm (against Real.cos _ _ _), mul_comm (against Real.sin _ _ _), sqrt_scale _ _ (by norm_num)]
  rfl

/-- The second half of the shift of the amplitudes to the centre. -/
def centre (A : Vec Ideal S32x10x10x124x124 .f32) : Vec Ideal S32x10x10x124x124 .f32 :=
  concatenate S32x10x10x124x124 2 [⟨S32x10x5x124x124, (extractStridedSlice S32x10x5x124x124 ![0, 0, 5, 0, 0] A slices_S32x10x10x124x124_S32x10x5x124x124_0_0_5_0_0)⟩, ⟨S32x10x5x124x124, (extractStridedSlice S32x10x5x124x124 ![0, 0, 0, 0, 0] A slices_S32x10x10x124x124_S32x10x5x124x124_0_0_0_0_0)⟩] concatenates_S32x10x5x124x124_S32x10x5x124x124_S32x10x10x124x124_d2

/-- The reference's result. -/
def result : Vec Ideal S32x6x124x124 .f32 :=
  mulf (Host.log (addf (Host.divf (transpose S32x6x124x124 [1, 0, 2, 3] (Host.dotGeneral (φ₁ := .f32) (φ₂ := .f32) dot_S6x10x10_S32x10x10x124x124_S6x32x124x124_21_21_0_034_n_n none (res_main_cst V) (centre (res_main_call0_v2 V))) transposes_S6x32x124x124_S32x6x124x124_1_0_2_3) (broadcastInDim S32x6x124x124 ![0, 1, 2, 3] bcast_S1x6x1x1_S32x6x124x124_0_1_2_3 (broadcastInDim S1x6x1x1 ![1] bcast_S6_S1x6x1x1_1 (maximumf (Host.reduceAdd (res_main_cst V) (constant S_ .f32 0x00000000#32) reducesTo_S6x10x10_S6_d1_2 h_S_) (broadcastInDim S6 ![] bcast_S_S6 (constant S_ .f32 0x3F800000#32)))))) (broadcastInDim S32x6x124x124 ![] bcast_S_S32x6x124x124 (constant S_ .f32 0x358637BD#32)))) (broadcastInDim S32x6x124x124 ![] bcast_S_S32x6x124x124 (constant S_ .f32 0x3EDE5BD9#32))

theorem centre_apply (A : Vec Ideal S32x10x10x124x124 .f32) (b : Fin 32) (y x : Fin 10) (h w : Fin 124) :
    centre A (ix5 b y x h w) = A (ix5 b y (⟨(x.val + 5) % 10, Nat.mod_lt _ (by decide)⟩ : Fin 10) h w) := by
  unfold centre
  pointwise
  split
  · exact congrArg (fun x' : Fin 10 => A (ix5 b y x' h w)) (Fin.ext (by dsimp only; omega))
  · exact congrArg (fun x' : Fin 10 => A (ix5 b y x' h w)) (Fin.ext (by dsimp only; omega))

theorem shift_apply (b : Fin 32) (y x : Fin 10) (h w : Fin 124) :
    res_main_call0_v2 V (ix5 b y x h w) = res_main_v84 V (ix5 b (⟨(y.val + 5) % 10, Nat.mod_lt _ (by decide)⟩ : Fin 10) x h w) := by
  unfold res_main_call0_v2
  pointwise
  split
  · exact congrArg (fun y' : Fin 10 => res_main_v84 V (ix5 b y' x h w)) (Fin.ext (by dsimp only; omega))
  · exact congrArg (fun y' : Fin 10 => res_main_v84 V (ix5 b y' x h w)) (Fin.ext (by dsimp only; omega))

theorem centred_apply (b : Fin 32) (y x : Fin 10) (h w : Fin 124) :
    centre (res_main_call0_v2 V) (ix5 b y x h w)
      = (((10 : ℝ)⁻¹ : ℝ) : EReal) * amp (patch (V (Proc.devRef .tc main_arg0)) b h w) ((y.val + 5) % 10) ((x.val + 5) % 10) :=
  (centre_apply _ b y x h w).trans ((shift_apply V b y _ h w).trans (amp_apply V b _ _ h w))

/-- The masks' words: one in the cell's own ring, nothing elsewhere. -/
theorem mask_word : ∀ (k : Fin 6) (z : Fin 10 × Fin 10),
    lit0t (k.val * 100 + z.1.val * 10 + z.2.val) = if ring (z.1.val * 10 + z.2.val) = k.val then 0x3F800000#32 else 0#32 := by
  decide +kernel

theorem mask_apply (k : Fin 6) (z : Fin 10 × Fin 10) : Ideal.ofBits .f32 (lit0 (S6x10x10.rowMajor (ix3 k z.1 z.2))) = ((cellW k z : ℝ) : EReal) := by
  have e : lit0 (S6x10x10.rowMajor (ix3 k z.1 z.2)) = lit0t (S6x10x10.rowMajor (ix3 k z.1 z.2)).val := rfl
  rw [e, rowMajor_val3 (σ0 := 100) (σ1 := 10) _ rfl rfl]
  change Ideal.ofBits .f32 (lit0t (k.val * 100 + z.1.val * 10 + z.2.val)) = _
  rw [mask_word]
  unfold cellW
  split
  · rw [bits_one, Nat.cast_one]
  · rw [Ideal.ofBits_zero_f32, Nat.cast_zero, EReal.coe_zero]

theorem count_apply (k : Fin 6) : max (∑ z : Fin 10 × Fin 10, ((cellW k z : ℝ) : EReal)) 1 = ((cnt k : ℝ) : EReal) := by
  have h : (1 : ℝ) ≤ cnt k := by
    have : 1 ≤ cnt k := by revert k; decide
    exact_mod_cast this
  rw [← coe_sum, ← Nat.cast_sum, cells, max_eq_left]
  exact_mod_cast h

theorem result_apply (b : Fin 32) (k : Fin 6) (h w : Fin 124) :
    result V (ix4 b k h w) = Ideal.log (ringMean (patch (V (Proc.devRef .tc main_arg0)) b h w) k + Ideal.ofBits .f32 0x358637BD#32) * Ideal.ofBits .f32 0x3EDE5BD9#32 := by
  unfold result res_main_cst
  pointwise
  refine congrArg (fun s : EReal => Ideal.log (s + Ideal.ofBits .f32 0x358637BD#32) * Ideal.ofBits .f32 0x3EDE5BD9#32) ?_
  rw [← Fintype.sum_prod_type_right (f := fun z : Fin 10 × Fin 10 => Ideal.ofBits .f32 (lit0 (S6x10x10.rowMajor (ix3 k z.1 z.2))) * centre (res_main_call0_v2 V) (ix5 b z.1 z.2 h w)),
    ← Fintype.sum_prod_type (f := fun z : Fin 10 × Fin 10 => Ideal.ofBits .f32 (lit0 (S6x10x10.rowMajor (ix3 k z.1 z.2))))]
  rw [Finset.sum_congr rfl fun z _ => mask_apply k z, count_apply, div_coe _ (cnt_pos k).ne']
  rw [Finset.sum_congr rfl fun z _ => show _ = (((10 : ℝ)⁻¹ : ℝ) : EReal) * (cellW k z • amp (patch (V (Proc.devRef .tc main_arg0)) b h w) ((z.1.val + 5) % 10) ((z.2.val + 5) % 10)) by
    rw [mask_apply, centred_apply, EReal.nsmul_eq_mul, mul_left_comm]; rfl]
  rw [← mul_sum_pos _ _ (by norm_num), mul_comm, ← mul_assoc, ← EReal.coe_mul]
  unfold ringMean
  rw [mul_inv, mul_comm (10 : ℝ)⁻¹]

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v98) = result (StableHlo.launchContents m c)
      ∧ r.2.mem ((c.tc : Thread nD τ).loc main_arg0) = m ((c.tc : Thread nD τ).loc main_arg0) :=
  Value.run m ρ

/-- The reference runs, leaves its argument, and ends with every semaphore at zero: it has none. -/
theorem frame (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)) ∧ r.2.sem = fun _ => 0 :=
  (θ_run defs _ _).mono (fun r h => ⟨fun c => (h c).2, sem_eq_zero_of_no_sems (by decide) r.2⟩) (run_result m ρ)

end Cert.ReferenceIdeal.Hand

end
-- ==== Proof.Equation.lean ====
/- The kernel's result and the reference's are one array. -/
module

public import proofs.«01_k».proof.Defs
public import proofs.«01_k».proof.Proof.KValue
public import proofs.«01_k».proof.Proof.RefValue

@[expose] public section

set_option maxRecDepth 16384

noncomputable section

namespace Cert.Hand

open Idealize.ShloMosaic Idealize.ShloMosaic.TcCoe

/-- Both programs cut the same patches out of the same grey image. -/
theorem patch_eq (X : Cert.KernelIdeal.S32x3x256x256.Idx → EReal) (b : Fin 32) (h w : Fin 124) :
    Cert.ReferenceIdeal.Hand.patch X b h w = Cert.KernelIdeal.Hand.kpatch X b h w := rfl

/-- An index of the result, by its four coordinates. -/
theorem index_eta (i : Cert.KernelIdeal.S32x6x124x124.Idx) : i = ix4 (i 0) (i 1) (i 2) (i 3) := by
  funext a
  match a with
  | 0 => rfl
  | 1 => rfl
  | 2 => rfl
  | 3 => rfl

/-- The reference's result on the kernel's input is what the kernel leaves. -/
theorem results_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Hand.result (StableHlo.launchContents m' c) = Cert.KernelIdeal.Gen.W5 m ρ c (Proc.devRef .tc Cert.KernelIdeal.main_v0) := by
  funext i
  have hX : StableHlo.launchContents m' c (Proc.devRef .tc Cert.ReferenceIdeal.main_arg0) = m ((c.tc : Thread Cert.KernelIdeal.nD Cert.KernelIdeal.τ).loc Cert.KernelIdeal.main_arg0) := hm
  rw [index_eta i]
  refine (Cert.ReferenceIdeal.Hand.result_apply _ (i 0) (i 1) (i 2) (i 3)).trans (Eq.trans ?_ (Cert.KernelIdeal.Hand.value m ρ c (i 0) (i 1) (i 2) (i 3)).symm)
  rw [hX]
  exact congrArg (fun p => Ideal.log (ringMean p (i 1) + Ideal.ofBits .f32 0x358637BD#32) * Ideal.ofBits .f32 0x3EDE5BD9#32) (patch_eq _ (i 0) (i 2) (i 3))

/-- The two programs' results agree, element by element. -/
theorem algebraic [hK : Cert.KernelIdeal.Facts] [hR : Cert.ReferenceIdeal.Facts] : Cert.algebraic_KernelIdeal_ReferenceIdeal := fun m g m' g' _ hm =>
  ⟨fun c => Cert.KernelIdeal.Gen.W5 m g c (Proc.devRef .tc Cert.KernelIdeal.main_v0), Cert.KernelIdeal.Hand.run m g,
    (θ_run _ _ _).mono (fun r h c => ⟨(h c).1.trans (results_eq m g m' c (hm c)), (h c).2⟩) (Cert.ReferenceIdeal.Hand.run_result m' g')⟩

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Hand.frame m ρ,
  IdealRules.bf16_pack.statement _, Cert.Hand.algebraic⟩

end Cert.Proof

end
